-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x4096 : Shape := ⟨2, ![1024, 4096]⟩
abbrev S8192x4096 : Shape := ⟨2, ![8192, 4096]⟩
abbrev S256x4096 : Shape := ⟨2, ![256, 4096]⟩
abbrev S2x512x1024 : Shape := ⟨3, ![2, 512, 1024]⟩
abbrev S512x4096 : Shape := ⟨2, ![512, 4096]⟩
abbrev S_ : Shape := ⟨0, ![]⟩
abbrev S2 : Shape := ⟨1, ![2]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 3
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .local _ .vmem, ⟨0, _⟩ => ⟨S1024x4096, .bf16⟩
  | .local _ .vmem, ⟨1, _⟩ => ⟨S256x4096, .f32⟩
  | .local _ .vmem, ⟨2, _⟩ => ⟨S2x512x1024, .f32⟩
  | .local _ .vmem, ⟨3, _⟩ => ⟨S2x512x1024, .bf16⟩
  | .local _ .vmem, ⟨4, _⟩ => ⟨S1024x4096, .f32⟩
  | .local _ .vmem, ⟨5, _⟩ => ⟨S512x4096, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 3 9 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v13 : BitVec 32 := Scalar.muli v2 c1024_i32
  let c0_i32_15 : BitVec 32 := 0#32
  ![v13.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_10 : BitVec 32 := 1024#32
  let v14 : BitVec 32 := Scalar.muli v2 c1024_i32_10
  let c512_i32 : BitVec 32 := 512#32
  let v15 : BitVec 32 := Scalar.addi v14 c512_i32
  let c0_i32_20 : BitVec 32 := 0#32
  ![v15.toNat, 0]
@[reducible] def k0_t1_loop : Scf.Loop 32 :=
  let c0_i32_91 : BitVec 32 := 0#32
  let c14_i32 : BitVec 32 := 14#32
  let v100 : BitVec 32 := Scalar.addi c0_i32_91 c14_i32
  let c1_i32_92 : BitVec 32 := 1#32
  ⟨c0_i32_91, v100, c1_i32_92⟩
def k0_cond2 (k0_t1 : Fin k0_t1_loop.trips) : BitVec 1 :=
  let c0_i32_91 : BitVec 32 := 0#32
  let c1_i32_92 : BitVec 32 := 1#32
  let arg22 : BitVec 32 := Scf.iv c0_i32_91 c1_i32_92 k0_t1
  let c8_i32_104 : BitVec 32 := 8#32
  let v109 : BitVec 1 := Scalar.cmpi .sge arg22 c8_i32_104
  let c7_i32 : BitVec 32 := 7#32
  let v108 : BitVec 32 := Scalar.subi arg22 c7_i32
  let c2_i32_105 : BitVec 32 := 2#32
  let v110 : BitVec 32 := Scalar.remsi v108 c2_i32_105
  let c1_i32_106 : BitVec 32 := 1#32
  let v111 : BitVec 1 := Scalar.cmpi .eq v110 c1_i32_106
  let v112 : BitVec 1 := Scalar.andi v109 v111
  let true_107 : BitVec 1 := 1#1
  let v113 : BitVec 1 := Scalar.xori v112 true_107
  let v114 : BitVec 32 := Scalar.extui v113
  let c0_i32_108 : BitVec 32 := 0#32
  let v115 : BitVec 1 := Scalar.cmpi .ne v114 c0_i32_108
  v115

def k0_dev3 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_114 : BitVec 32 := 1#32
  let v124 : BitVec 32 := Scalar.muli v7 c1_i32_114
  let v125 : BitVec 32 := Scalar.addi c0_i32_115 v124
  v125.toNat
def k0_dev4 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_116 : BitVec 32 := 1#32
  let v126 : BitVec 32 := Scalar.muli v5 c1_i32_116
  let v127 : BitVec 32 := Scalar.addi c0_i32_117 v126
  v127.toNat
def k0_cond3 (k0_t1 : Fin k0_t1_loop.trips) : BitVec 1 :=
  let c0_i32_91 : BitVec 32 := 0#32
  let c1_i32_92 : BitVec 32 := 1#32
  let arg22 : BitVec 32 := Scf.iv c0_i32_91 c1_i32_92 k0_t1
  let c8_i32_104 : BitVec 32 := 8#32
  let v109 : BitVec 1 := Scalar.cmpi .sge arg22 c8_i32_104
  let c7_i32 : BitVec 32 := 7#32
  let v108 : BitVec 32 := Scalar.subi arg22 c7_i32
  let c2_i32_105 : BitVec 32 := 2#32
  let v110 : BitVec 32 := Scalar.remsi v108 c2_i32_105
  let c1_i32_106 : BitVec 32 := 1#32
  let v111 : BitVec 1 := Scalar.cmpi .eq v110 c1_i32_106
  let v112 : BitVec 1 := Scalar.andi v109 v111
  let v116 : BitVec 32 := Scalar.extui v112
  let c0_i32_109 : BitVec 32 := 0#32
  let v117 : BitVec 1 := Scalar.cmpi .ne v116 c0_i32_109
  v117

def k0_dev5 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_114 : BitVec 32 := 1#32
  let v124 : BitVec 32 := Scalar.muli v7 c1_i32_114
  let v125 : BitVec 32 := Scalar.addi c0_i32_115 v124
  v125.toNat
def k0_dev6 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_116 : BitVec 32 := 1#32
  let v126 : BitVec 32 := Scalar.muli v5 c1_i32_116
  let v127 : BitVec 32 := Scalar.addi c0_i32_117 v126
  v127.toNat
def k0_cond4 (k0_t1 : Fin k0_t1_loop.trips) : BitVec 1 :=
  let c0_i32_91 : BitVec 32 := 0#32
  let c1_i32_92 : BitVec 32 := 1#32
  let arg22 : BitVec 32 := Scf.iv c0_i32_91 c1_i32_92 k0_t1
  let c7_i32_110 : BitVec 32 := 7#32
  let v118 : BitVec 1 := Scalar.cmpi .slt arg22 c7_i32_110
  let v119 : BitVec 32 := Scalar.extui v118
  let c0_i32_111 : BitVec 32 := 0#32
  let v120 : BitVec 1 := Scalar.cmpi .ne v119 c0_i32_111
  v120

def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_91 : BitVec 32 := 0#32
  let c1_i32_92 : BitVec 32 := 1#32
  let arg22 : BitVec 32 := Scf.iv c0_i32_91 c1_i32_92 k0_t1
  let v124 : BitVec 32 := Scalar.subi v2 arg22
  let c1_i32_114 : BitVec 32 := 1#32
  let v125 : BitVec 32 := Scalar.subi v124 c1_i32_114
  let c16_i32 : BitVec 32 := 16#32
  let v126 : BitVec 32 := Scalar.addi v125 c16_i32
  let c8_i32_115 : BitVec 32 := 8#32
  let v127 : BitVec 32 := Scalar.remsi v126 c8_i32_115
  let c1024_i32_118 : BitVec 32 := 1024#32
  let v131 : BitVec 32 := Scalar.muli v127 c1024_i32_118
  let c0_i32_125 : BitVec 32 := 0#32
  ![v131.toNat, 0]
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_91 : BitVec 32 := 0#32
  let c1_i32_92 : BitVec 32 := 1#32
  let arg22 : BitVec 32 := Scf.iv c0_i32_91 c1_i32_92 k0_t1
  let v128 : BitVec 32 := Scalar.addi v2 arg22
  let c1_i32_116 : BitVec 32 := 1#32
  let v129 : BitVec 32 := Scalar.addi v128 c1_i32_116
  let c8_i32_117 : BitVec 32 := 8#32
  let v130 : BitVec 32 := Scalar.remsi v129 c8_i32_117
  let c1024_i32_119 : BitVec 32 := 1024#32
  let v132 : BitVec 32 := Scalar.muli v130 c1024_i32_119
  let c512_i32_120 : BitVec 32 := 512#32
  let v133 : BitVec 32 := Scalar.addi v132 c512_i32_120
  let c0_i32_130 : BitVec 32 := 0#32
  ![v133.toNat, 0]
def k0_dev7 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_192 : BitVec 32 := 1#32
  let v206 : BitVec 32 := Scalar.muli v5 c1_i32_192
  let v207 : BitVec 32 := Scalar.addi c0_i32_193 v206
  v207.toNat
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_195 : BitVec 32 := 1#32
  let v208 : BitVec 32 := Scalar.muli v7 c1_i32_195
  let v209 : BitVec 32 := Scalar.addi c0_i32_196 v208
  v209.toNat
def k0_cond5 (k0_t1 : Fin k0_t1_loop.trips) : BitVec 1 :=
  let c0_i32_91 : BitVec 32 := 0#32
  let c1_i32_92 : BitVec 32 := 1#32
  let arg22 : BitVec 32 := Scf.iv c0_i32_91 c1_i32_92 k0_t1
  let c6_i32 : BitVec 32 := 6#32
  let v210 : BitVec 1 := Scalar.cmpi .eq arg22 c6_i32
  let v211 : BitVec 32 := Scalar.extui v210
  let c0_i32_197 : BitVec 32 := 0#32
  let v212 : BitVec 1 := Scalar.cmpi .ne v211 c0_i32_197
  v212

def k0_off5 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_91 : BitVec 32 := 0#32
  let c1_i32_92 : BitVec 32 := 1#32
  let arg22 : BitVec 32 := Scf.iv c0_i32_91 c1_i32_92 k0_t1
  let v124 : BitVec 32 := Scalar.subi v2 arg22
  let c1_i32_114 : BitVec 32 := 1#32
  let v125 : BitVec 32 := Scalar.subi v124 c1_i32_114
  let c16_i32 : BitVec 32 := 16#32
  let v126 : BitVec 32 := Scalar.addi v125 c16_i32
  let c8_i32_115 : BitVec 32 := 8#32
  let v127 : BitVec 32 := Scalar.remsi v126 c8_i32_115
  let c1024_i32_198 : BitVec 32 := 1024#32
  let v213 : BitVec 32 := Scalar.muli v127 c1024_i32_198
  let c0_i32_199 : BitVec 32 := 0#32
  ![v213.toNat, 0]
def k0_off6 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_91 : BitVec 32 := 0#32
  let c1_i32_92 : BitVec 32 := 1#32
  let arg22 : BitVec 32 := Scf.iv c0_i32_91 c1_i32_92 k0_t1
  let v128 : BitVec 32 := Scalar.addi v2 arg22
  let c1_i32_116 : BitVec 32 := 1#32
  let v129 : BitVec 32 := Scalar.addi v128 c1_i32_116
  let c8_i32_117 : BitVec 32 := 8#32
  let v130 : BitVec 32 := Scalar.remsi v129 c8_i32_117
  let c1024_i32_202 : BitVec 32 := 1024#32
  let v216 : BitVec 32 := Scalar.muli v130 c1024_i32_202
  let c512_i32_203 : BitVec 32 := 512#32
  let v217 : BitVec 32 := Scalar.addi v216 c512_i32_203
  let c0_i32_204 : BitVec 32 := 0#32
  ![v217.toNat, 0]
def k0_cond6 (k0_t1 : Fin k0_t1_loop.trips) : BitVec 1 :=
  let c0_i32_91 : BitVec 32 := 0#32
  let c1_i32_92 : BitVec 32 := 1#32
  let arg22 : BitVec 32 := Scf.iv c0_i32_91 c1_i32_92 k0_t1
  let c7_i32_112 : BitVec 32 := 7#32
  let v121 : BitVec 1 := Scalar.cmpi .sge arg22 c7_i32_112
  let v122 : BitVec 32 := Scalar.extui v121
  let c0_i32_113 : BitVec 32 := 0#32
  let v123 : BitVec 1 := Scalar.cmpi .ne v122 c0_i32_113
  v123

def k0_cond9 (k0_t1 : Fin k0_t1_loop.trips) : BitVec 1 :=
  let c0_i32_91 : BitVec 32 := 0#32
  let c1_i32_92 : BitVec 32 := 1#32
  let arg22 : BitVec 32 := Scf.iv c0_i32_91 c1_i32_92 k0_t1
  let c13_i32 : BitVec 32 := 13#32
  let v146 : BitVec 1 := Scalar.cmpi .slt arg22 c13_i32
  let v147 : BitVec 32 := Scalar.extui v146
  let c0_i32_138 : BitVec 32 := 0#32
  let v148 : BitVec 1 := Scalar.cmpi .ne v147 c0_i32_138
  v148

def k0_dev9 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_149 : BitVec 32 := 1#32
  let v156 : BitVec 32 := Scalar.muli v5 c1_i32_149
  let v157 : BitVec 32 := Scalar.addi c0_i32_150 v156
  v157.toNat
def k0_dev10 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_152 : BitVec 32 := 1#32
  let v158 : BitVec 32 := Scalar.muli v7 c1_i32_152
  let v159 : BitVec 32 := Scalar.addi c0_i32_153 v158
  v159.toNat
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_91 : BitVec 32 := 0#32
  let c1_i32_92 : BitVec 32 := 1#32
  let arg22 : BitVec 32 := Scf.iv c0_i32_91 c1_i32_92 k0_t1
  let c7_i32_114 : BitVec 32 := 7#32
  let v124 : BitVec 32 := Scalar.subi arg22 c7_i32_114
  let v125 : BitVec 32 := Scalar.subi v2 v124
  let c8_i32_115 : BitVec 32 := 8#32
  let v126 : BitVec 32 := Scalar.addi v125 c8_i32_115
  let c8_i32_116 : BitVec 32 := 8#32
  let v127 : BitVec 32 := Scalar.remsi v126 c8_i32_116
  let c1024_i32_139 : BitVec 32 := 1024#32
  let v149 : BitVec 32 := Scalar.muli v127 c1024_i32_139
  let c0_i32_140 : BitVec 32 := 0#32
  ![v149.toNat, 0]
def k0_off8 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_91 : BitVec 32 := 0#32
  let c1_i32_92 : BitVec 32 := 1#32
  let arg22 : BitVec 32 := Scf.iv c0_i32_91 c1_i32_92 k0_t1
  let c7_i32_114 : BitVec 32 := 7#32
  let v124 : BitVec 32 := Scalar.subi arg22 c7_i32_114
  let v128 : BitVec 32 := Scalar.addi v2 v124
  let c8_i32_117 : BitVec 32 := 8#32
  let v129 : BitVec 32 := Scalar.remsi v128 c8_i32_117
  let c1024_i32_143 : BitVec 32 := 1024#32
  let v152 : BitVec 32 := Scalar.muli v129 c1024_i32_143
  let c512_i32_144 : BitVec 32 := 512#32
  let v153 : BitVec 32 := Scalar.addi v152 c512_i32_144
  let c0_i32_145 : BitVec 32 := 0#32
  ![v153.toNat, 0]
-- ==== ReferenceIdeal.lean ====
abbrev S8192x8192 : Shape := ⟨2, ![8192, 8192]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x8192, .bf16⟩
  | .hbm, ⟨3, _⟩ => ⟨S8192x4096, .bf16⟩
  | .hbm, ⟨4, _⟩ => ⟨S8192x4096, .f32⟩
  | .hbm, ⟨5, _⟩ => ⟨S8192x4096, .bf16⟩
  | .hbm, ⟨6, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Ring.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Pipeline.Launch
public import Idealize.ShloMosaic.Lib.Pipeline.Kit
public import Idealize.ShloMosaic.Lib.Tactic

/-! # The two rings: devices, buffers, semaphores and contents

Eight devices form a ring. One stream of messages goes to the right (direction `false`) and one to
the left (direction `true`); each has a send and a receive buffer per device, which swap roles on
every second hop of the all-gather. This file names the neighbours, the buffers, the semaphores and
the contents each hop carries. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The algebra -/

/-- The rounds' part of the algebra: duties are named by a direction. -/
abbrev UB := URounds (GSem nD τ sig) Bool

/-- The algebra: the pipeline's part, the rounds' part and the counters of the local copies. -/
abbrev UU := UR sig nD τ × (UB × Counters)

local notation "𝕄" => MT nD τ sig ℕ (Elt F) ℕ UU ℕ

/-- The pipeline's part of the algebra. -/
abbrev EP : Emb (UR sig nD τ) 𝕄 := embL

/-- The rounds' part of the algebra. -/
def ER : Emb UB 𝕄 :=
  ((Emb.inl : Emb UB (UB × Counters)).trans (Emb.inr : Emb (UB × Counters) UU)).trans uEmb.toEmb

instance : (ER : Emb UB 𝕄).LandsIn upEmb := by unfold ER; infer_instance

/-- The counters' part of the algebra. -/
abbrev EC : UEmb Counters 𝕄 := countersEmb

/-! ## Neighbours -/

set_option backward.proofsInPublic true in
/-- The device that `c` sends to in direction `b`. -/
def dn (b : Bool) (c : Dev nD) : Dev nD :=
  match b with
  | false => ⟨(c.val + 1) % 8, Nat.mod_lt _ (by decide)⟩
  | true => ⟨(c.val + 7) % 8, Nat.mod_lt _ (by decide)⟩

/-- The device that `c` receives from in direction `b`. -/
def up (b : Bool) (c : Dev nD) : Dev nD := dn (!b) c

theorem up_dn : ∀ (b : Bool) (c : Dev nD), up b (dn b c) = c := by decide
theorem dn_up : ∀ (b : Bool) (c : Dev nD), dn b (up b c) = c := by decide

set_option backward.proofsInPublic true in
/-- The block of rows that device `c` adds at hop `k` in direction `b`. -/
def ch (b : Bool) (c : Dev nD) (k : ℕ) : Fin 8 :=
  match b with
  | false => ⟨(c.val + 15 - k) % 8, Nat.mod_lt _ (by decide)⟩
  | true => ⟨(c.val + k + 1) % 8, Nat.mod_lt _ (by decide)⟩

/-! ## Buffers -/

abbrev A0 : Memref sig .tc .hbm S8192x1024 .f32 := Memref.whole main_arg0
abbrev A1 : Memref sig .tc .hbm S1024x4096 .f32 := Memref.whole main_arg1
abbrev A2 : Memref sig .tc .hbm S8192x4096 .f32 := Memref.whole main_v1
abbrev A3 : Memref sig .tc .vmem S1024x4096 .bf16 := Memref.whole cc0_scratch0
abbrev A4 : Memref sig .tc .vmem S256x4096 .f32 := Memref.whole cc0_scratch1
abbrev A5 : Memref sig .tc .vmem S2x512x1024 .f32 := Memref.whole cc0_scratch2
abbrev A6 : Memref sig .tc .vmem S2x512x1024 .bf16 := Memref.whole cc0_scratch3
abbrev A7 : Memref sig .tc .vmem S1024x4096 .f32 := Memref.whole cc0_scratch4

/-- The send (`false`) and receive (`true`) buffer of direction `b`. -/
def bufM (b w : Bool) : Memref sig .tc .vmem S512x4096 .bf16 :=
  match b, w with
  | false, false => Memref.whole cc0_scratch5
  | true, false => Memref.whole cc0_scratch6
  | false, true => Memref.whole cc0_scratch7
  | true, true => Memref.whole cc0_scratch8

/-- Whether the buffers' roles are swapped at hop `k`. -/
def swp (k : ℕ) : Bool := decide (8 ≤ k ∧ k % 2 = 0)

/-- The buffer that hop `k` sends from. -/
def srcM (b : Bool) (k : ℕ) : Memref sig .tc .vmem S512x4096 .bf16 := bufM b (swp k)
/-- The buffer that hop `k` lands in. -/
def dstM (b : Bool) (k : ℕ) : Memref sig .tc .vmem S512x4096 .bf16 := bufM b (!swp k)

/-! ## Semaphores -/

/-- The semaphore counting direction `b`'s departures. -/
def sndD (b : Bool) : DmaSem sig :=
  match b with | false => cc0_scratch9.sem | true => cc0_scratch10.sem
/-- The semaphore counting direction `b`'s arrivals. -/
def rcvD (b : Bool) : DmaSem sig :=
  match b with | false => cc0_scratch11.sem | true => cc0_scratch12.sem
/-- The semaphore counting direction `b`'s free buffers downstream. -/
def crdD (b : Bool) : Sem sig :=
  match b with | false => cc0_scratch17.sem | true => cc0_scratch18.sem
/-- The barrier's semaphore. -/
abbrev barD : Sem sig := (SemArray.scalar (sig.barrier 0 rfl) : Sems sig S_).sem
/-- The semaphores of the two staging slots of `x`. -/
def xD (b : Bool) : DmaSem sig :=
  match b with
  | false => ((cc0_scratch13.slice (Rect.unit (s := S2) ![0] S1.size inb_S2_S1_0) ).squeeze S_ squeezes_S1_S_).sem
  | true => ((cc0_scratch13.slice (Rect.unit (s := S2) ![1] S1.size inb_S2_S1_1)).squeeze S_ squeezes_S1_S_).sem
/-- The semaphore of the weight's staging buffer. -/
abbrev wD : DmaSem sig := cc0_scratch14.sem
/-- The semaphore of direction `b`'s copies to the result. -/
def outD (b : Bool) : DmaSem sig :=
  match b with | false => cc0_scratch15.sem | true => cc0_scratch16.sem

abbrev sndS (b : Bool) : SemLoc sig := .dma (sndD b)
abbrev rcvS (b : Bool) : SemLoc sig := .dma (rcvD b)
abbrev crdS (b : Bool) : SemLoc sig := .reg (crdD b)
abbrev barS : SemLoc sig := .reg barD

abbrev sndC (b : Bool) (c : Dev nD) : GSem nD τ sig := ((c : Thread nD τ), sndS b)
abbrev rcvC (b : Bool) (c : Dev nD) : GSem nD τ sig := ((c : Thread nD τ), rcvS b)
abbrev crdC (b : Bool) (c : Dev nD) : GSem nD τ sig := ((c : Thread nD τ), crdS b)
abbrev barC (c : Dev nD) : GSem nD τ sig := ((c : Thread nD τ), barS)

/-- The amount that one hop's landing adds. -/
def NN : ℕ := (bufM false false).view.dmaCredit

/-- What a ring semaphore is for. -/
inductive CK
  | bar | snd (b : Bool) | rcv (b : Bool) | crd (b : Bool) | other

/-- The use of a semaphore. -/
def ck (s : SemLoc sig) : CK :=
  if s = barS then .bar
  else if s = sndS false then .snd false else if s = sndS true then .snd true
  else if s = rcvS false then .rcv false else if s = rcvS true then .rcv true
  else if s = crdS false then .crd false else if s = crdS true then .crd true
  else .other

theorem ck_bar : ck barS = .bar := rfl
theorem ck_snd (b : Bool) : ck (sndS b) = .snd b := by cases b <;> rfl
theorem ck_rcv (b : Bool) : ck (rcvS b) = .rcv b := by cases b <;> rfl
theorem ck_crd (b : Bool) : ck (crdS b) = .crd b := by cases b <;> rfl

/-! ## Contents -/

variable (m : (ℓ : Loc nD τ sig) → Buf (Elt F) ℓ)

/-- Device `c`'s columns of `x`. -/
abbrev xIn (c : Dev nD) : S8192x1024.Idx → Elt F .f32 := m ((c : Thread nD τ).loc main_arg0)
/-- Device `c`'s rows of the weight. -/
abbrev wIn (c : Dev nD) : S1024x4096.Idx → Elt F .f32 := m ((c : Thread nD τ).loc main_arg1)

/-- The first row of half `b` of block `j`. -/
def row0 (b : Bool) (j : Fin 8) : ℕ :=
  match b with | false => 1024 * j.val | true => 1024 * j.val + 512

theorem row0_le : ∀ (b : Bool) (j : Fin 8), row0 b j + 512 ≤ 8192 := by decide

theorem inb_x (b : Bool) (j : Fin 8) : ∀ a, (![row0 b j, 0] : Fin 2 → ℕ) a + S512x1024.size a ≤ S8192x1024.size a := by
  revert b j; decide
theorem inb_o (b : Bool) (j : Fin 8) : ∀ a, (![row0 b j, 0] : Fin 2 → ℕ) a + S512x4096.size a ≤ S8192x4096.size a := by
  revert b j; decide

/-- Half `b` of block `j`'s rows in `x`. -/
abbrev xR (b : Bool) (j : Fin 8) : Rect S8192x1024 := Rect.unit (s := S8192x1024) ![row0 b j, 0] S512x1024.size (inb_x b j)
/-- Half `b` of block `j`'s rows in the result. -/
abbrev oR (b : Bool) (j : Fin 8) : Rect S8192x4096 := Rect.unit (s := S8192x4096) ![row0 b j, 0] S512x4096.size (inb_o b j)

/-- Device `c`'s part of half `b` of block `j` of `x`. -/
def xblk (b : Bool) (c : Dev nD) (j : Fin 8) : Vec F S512x1024 .f32 := fun i => xIn m c ((xR b j).emb i)

/-- The same as a slot of the staging buffer. -/
def xblk1 (b : Bool) (c : Dev nD) (j : Fin 8) : Vec F S1x512x1024 .f32 :=
  shapeCast S1x512x1024 (xblk m b c j) shapeCasts_S512x1024_S1x512x1024

/-- Device `c`'s weight, rounded. -/
def wbf (c : Dev nD) : Vec F S1024x4096 .bf16 := truncf .bf16 (wIn m c : FVec F S1024x4096 .f32) bitsLt_bf16_f32

/-- Device `c`'s partial product for half `b` of block `j`. -/
def dot (b : Bool) (c : Dev nD) (j : Fin 8) : FVec F S512x4096 .f32 :=
  k0_pay3 (k0_pay1 (xblk1 m b c j)) (wbf m c)

/-- What device `c` sends at hop `k` in direction `b`: its own block's partial product first, then the
    sum so far with its own partial product added, and from hop 7 on what it received. -/
def v (b : Bool) : ℕ → Dev nD → FVec F S512x4096 .bf16
  | 0, c => k0_pay23 (dot m b c c)
  | k + 1, c => if k < 7 then k0_pay9 (dot m b c (ch b c k)) (v b k (up b c)) else v b k (up b c)

/-- The `n`-th half block that device `c` writes to the result in direction `b`. -/
def val (b : Bool) (c : Dev nD) (n : ℕ) : FVec F S512x4096 .f32 :=
  if n = 0 then k0_pay7 (dot m b c (ch b c 6)) (v m b 6 (up b c)) else k0_pay11 (v m b (6 + n) (up b c))

end Cert.Rings

end

end
-- ==== Proof.Sched.lean ====
module

public import proofs.«01_k».proof.Proof.Ring

/-! # The schedule of the two rings

For every ring semaphore: its rounds, who pays each of them, how much, and what the payment hands to
the device that waits. Then the index (which is its own level) of every due, what a device owes from
hop `k` on, and that every wait is below what is owed there. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## What a payment hands over -/

/-- A memref of device `c`, whole share, at contents `X`. -/
abbrev ownF (c : Dev nD) {sp : Space} {sh : Shape} {e : EltTy} (M : Memref sig .tc sp sh e) (X : sh.Idx → Elt F e) : sProp 𝕄 :=
  owns (c : Thread nD τ) M fullShare X

/-- A memref of device `c`, whole share, at some contents. -/
abbrev ownE (c : Dev nD) {sp : Space} {sh : Shape} {e : EltTy} (M : Memref sig .tc sp sh e) : sProp 𝕄 :=
  iprop(∃ X, ownF (F := F) c M X)

/-- The free landing buffer of hop `k` at the device `c` sends to, and that this device has reached the
    round of its arrival semaphore. -/
def slotPay (b : Bool) (c : Dev nD) (k : ℕ) : sProp 𝕄 :=
  iprop(ownE (F := F) (dn b c) (dstM b k) ∗ reached ER (rcvC b (dn b c)) k)

/-- A departed message's source buffer, back with the sender. -/
def sndPay (b : Bool) (c : Dev nD) (k : ℕ) : sProp 𝕄 := ownF c (srcM b k) (v m b k c)

/-- A landed message, and that the sender has reached the round of its credit semaphore. -/
def rcvPay (b : Bool) (c : Dev nD) (k : ℕ) : sProp 𝕄 :=
  iprop(ownF c (dstM b k) (v m b k (up b c)) ∗ reached ER (crdC b (up b c)) k)

/-! ## The schedule -/

/-- The duties of a round: the barrier has one round with a duty per neighbour; every hop is one round of
    the departures and one of the arrivals; every hop but the last is one round of the credits. -/
def dutiesOf (k : CK) (r : ℕ) : Finset Bool :=
  match k with
  | .bar => if r = 0 then Finset.univ else ∅
  | .snd _ => if r < 14 then {false} else ∅
  | .rcv _ => if r < 14 then {false} else ∅
  | .crd _ => if r < 13 then {false} else ∅
  | .other => ∅

/-- The units a duty adds. -/
def amountOf (k : CK) : ℕ :=
  match k with
  | .snd _ => NN
  | .rcv _ => NN
  | _ => 1

/-- What a duty hands over. -/
def payOf (k : CK) (c : Dev nD) (r : ℕ) (d : Bool) : sProp 𝕄 :=
  match k with
  | .bar => slotPay (F := F) d c 0
  | .snd b => sndPay m b c r
  | .rcv b => rcvPay m b c r
  | .crd b => slotPay (F := F) b c (r + 1)
  | .other => iprop(emp)

theorem NN_pos : 0 < NN := by decide +kernel

/-- The rings' schedule. -/
def Rd : Rounds.Schedule (GSem nD τ sig) Bool 𝕄 where
  duties g r := if g.1.2 = .tc then dutiesOf (ck g.2) r else ∅
  unitless _ := False
  amount g _ _ := amountOf (ck g.2)
  payload g r d := payOf m (ck g.2) g.1.1 r d
  amount_pos g _ _ _ := by
    cases h : ck g.2 <;> dsimp only [amountOf]
    all_goals first | exact NN_pos | exact Nat.one_pos

instance payOf_storable (k : CK) (c : Dev nD) (r : ℕ) (d : Bool) : BI.Storable (upEmb : UEmb _ 𝕄) (payOf m k c r d) := by
  unfold payOf
  cases k
  · unfold slotPay; infer_instance
  · unfold sndPay; infer_instance
  · unfold rcvPay; infer_instance
  · unfold slotPay; infer_instance
  · infer_instance

instance Rd_storable (g : GSem nD τ sig) (r : ℕ) (d : Bool) : BI.Storable (upEmb : UEmb _ 𝕄) ((Rd m).payload g r d) :=
  payOf_storable m (ck g.2) g.1.1 r d

section Tables
variable (b : Bool) (c : Dev nD) (r : ℕ) (d : Bool)

theorem duties_bar : (Rd m).duties (barC c) 0 = Finset.univ := rfl
theorem duties_snd (h : r < 14) : (Rd m).duties (sndC b c) r = {false} := by
  show dutiesOf (ck (sndS b)) r = _; rw [ck_snd]; exact if_pos h
theorem duties_rcv (h : r < 14) : (Rd m).duties (rcvC b c) r = {false} := by
  show dutiesOf (ck (rcvS b)) r = _; rw [ck_rcv]; exact if_pos h
theorem duties_crd (h : r < 13) : (Rd m).duties (crdC b c) r = {false} := by
  show dutiesOf (ck (crdS b)) r = _; rw [ck_crd]; exact if_pos h

theorem done_bar : ∀ r, 1 ≤ r → (Rd m).duties (barC c) r = ∅ := fun r h => if_neg (by omega)
theorem done_snd : ∀ r, 14 ≤ r → (Rd m).duties (sndC b c) r = ∅ := fun r h => by
  show dutiesOf (ck (sndS b)) r = _; rw [ck_snd]; exact if_neg (by omega)
theorem done_rcv : ∀ r, 14 ≤ r → (Rd m).duties (rcvC b c) r = ∅ := fun r h => by
  show dutiesOf (ck (rcvS b)) r = _; rw [ck_rcv]; exact if_neg (by omega)
theorem done_crd : ∀ r, 13 ≤ r → (Rd m).duties (crdC b c) r = ∅ := fun r h => by
  show dutiesOf (ck (crdS b)) r = _; rw [ck_crd]; exact if_neg (by omega)

theorem amount_bar : (Rd m).amount (barC c) r d = 1 := rfl
theorem amount_snd : (Rd m).amount (sndC b c) r d = NN := by show amountOf (ck (sndS b)) = _; rw [ck_snd]; rfl
theorem amount_rcv : (Rd m).amount (rcvC b c) r d = NN := by show amountOf (ck (rcvS b)) = _; rw [ck_rcv]; rfl
theorem amount_crd : (Rd m).amount (crdC b c) r d = 1 := by show amountOf (ck (crdS b)) = _; rw [ck_crd]; rfl

theorem payload_bar : (Rd m).payload (barC c) r d = slotPay d c 0 := rfl
theorem payload_snd : (Rd m).payload (sndC b c) r d = sndPay m b c r := by show payOf m (ck (sndS b)) c r d = _; rw [ck_snd]; rfl
theorem payload_rcv : (Rd m).payload (rcvC b c) r d = rcvPay m b c r := by show payOf m (ck (rcvS b)) c r d = _; rw [ck_rcv]; rfl
theorem payload_crd : (Rd m).payload (crdC b c) r d = slotPay b c (r + 1) := by show payOf m (ck (crdS b)) c r d = _; rw [ck_crd]; rfl

theorem expect_bar : (Rd m).expect (barC c) 0 = 2 := by
  unfold Schedule.expect Schedule.amountOf
  rw [duties_bar, Finset.sum_congr rfl fun d _ => amount_bar m c 0 d, Finset.sum_const, Finset.card_univ, Fintype.card_bool, smul_eq_mul]
theorem expect_snd (h : r < 14) : (Rd m).expect (sndC b c) r = NN := by
  unfold Schedule.expect Schedule.amountOf; rw [duties_snd m b c r h, Finset.sum_singleton, amount_snd]
theorem expect_rcv (h : r < 14) : (Rd m).expect (rcvC b c) r = NN := by
  unfold Schedule.expect Schedule.amountOf; rw [duties_rcv m b c r h, Finset.sum_singleton, amount_rcv]
theorem expect_crd (h : r < 13) : (Rd m).expect (crdC b c) r = 1 := by
  unfold Schedule.expect Schedule.amountOf; rw [duties_crd m b c r h, Finset.sum_singleton, amount_crd]

/-- What the barrier's wait hands over: both neighbours' landing buffers. -/
theorem rest_bar : bigSep ((Rd m).duties (barC c) 0 \ ∅) (fun d => (Rd m).payload (barC c) 0 d)
    = iprop(slotPay (F := F) false c 0 ∗ slotPay (F := F) true c 0) := by
  rw [Finset.sdiff_empty, duties_bar, bigSep_univ_eq_bigSepL [false, true] (by decide) (by decide), bigSepL_cons_cons, bigSepL_singleton,
    payload_bar, payload_bar]
  rfl
theorem rest_snd (h : r < 14) : bigSep ((Rd m).duties (sndC b c) r \ ∅) (fun d => (Rd m).payload (sndC b c) r d) = sndPay m b c r := by
  rw [Finset.sdiff_empty, duties_snd m b c r h, bigSep_singleton, payload_snd]
theorem rest_rcv (h : r < 14) : bigSep ((Rd m).duties (rcvC b c) r \ ∅) (fun d => (Rd m).payload (rcvC b c) r d) = rcvPay m b c r := by
  rw [Finset.sdiff_empty, duties_rcv m b c r h, bigSep_singleton, payload_rcv]
theorem rest_crd (h : r < 13) : bigSep ((Rd m).duties (crdC b c) r \ ∅) (fun d => (Rd m).payload (crdC b c) r d) = slotPay b c (r + 1) := by
  rw [Finset.sdiff_empty, duties_crd m b c r h, bigSep_singleton, payload_crd]

end Tables

/-- A run of hops is its first hop and the others. -/
theorem ico_peel {k n : ℕ} (h : k < n) : Finset.Ico k n = insert k (Finset.Ico (k + 1) n) := by
  ext i; rw [Finset.mem_insert, Finset.mem_Ico, Finset.mem_Ico]; omega

/-! ## Dues: an index is its own level -/

/-- The due of hop `k`'s message: the arrival at the device `c` sends to. -/
def rcvDue (b : Bool) (c : Dev nD) (k : ℕ) : CellTallies nD τ sig ℕ := tallyAt (rcvC b (dn b c)) (2 * k + 2) NN
/-- The due of hop `k`'s credit, to the device `c` receives from; there is none for the last hop. -/
def crdDue (b : Bool) (c : Dev nD) (k : ℕ) : CellTallies nD τ sig ℕ := if k < 13 then tallyAt (crdC b (up b c)) (2 * k + 3) 1 else 0

/-- What hop `k` pays, in the order of payment from the right. -/
def hopDue (c : Dev nD) (k : ℕ) : CellTallies nD τ sig ℕ :=
  crdDue true c k + crdDue false c k + rcvDue true c k + rcvDue false c k

/-- What device `c` owes when hop `k` begins. -/
def owed (c : Dev nD) (k : ℕ) : CellTallies nD τ sig ℕ := ∑ r ∈ Finset.Ico k 14, hopDue c r

/-- The barrier's two units. -/
def barDue (b : Bool) (c : Dev nD) : CellTallies nD τ sig ℕ := tallyAt (barC (up b c)) 1 1

/-- What device `c` owes at launch. -/
def owed₀ (c : Dev nD) : CellTallies nD τ sig ℕ := owed c 0 + barDue true c + barDue false c

theorem owed_end (c : Dev nD) : owed c 14 = 0 := by unfold owed; simp

/-- After the first credit of hop `k`. -/
def owedD (c : Dev nD) (k : ℕ) : CellTallies nD τ sig ℕ := owed c (k + 1) + crdDue true c k
/-- After both messages of hop `k` went out. -/
def owedC (c : Dev nD) (k : ℕ) : CellTallies nD τ sig ℕ := owedD c k + crdDue false c k
/-- After the first message of hop `k` went out. -/
def owedB (c : Dev nD) (k : ℕ) : CellTallies nD τ sig ℕ := owedC c k + rcvDue true c k

theorem owed_peel (c : Dev nD) {k : ℕ} (h : k < 14) : owed c k = owedB c k + rcvDue false c k := by
  unfold owedB owedC owedD owed
  rw [ico_peel h, Finset.sum_insert (by simp), hopDue, add_comm _ (∑ r ∈ Finset.Ico (k + 1) 14, hopDue c r)]
  simp only [add_assoc]

/-- What `c` owes is, at every cell, on a TensorCore and at levels `a` and up. -/
def Above (a : ℕ) (O : CellTallies nD τ sig ℕ) : Prop := ∀ g ι, 0 < O g ι → g.1.2 = .tc ∧ a ≤ ι ∧ ι < 64

theorem Above.add {a : ℕ} {O P : CellTallies nD τ sig ℕ} (h : Above a O) (h' : Above a P) : Above a (O + P) := fun g ι hp => by
  rw [Pi.add_apply, Finsupp.add_apply] at hp
  rcases Nat.eq_zero_or_pos (O g ι) with hz | hz
  · exact h' g ι (by omega)
  · exact h g ι hz

theorem Above.zero (a : ℕ) : Above a 0 := fun g ι hp => absurd hp (Nat.lt_irrefl 0)

theorem Above.sum {a : ℕ} {s : Finset ℕ} {O : ℕ → CellTallies nD τ sig ℕ} (h : ∀ r ∈ s, Above a (O r)) : Above a (∑ r ∈ s, O r) :=
  Finset.sum_induction O (Above a) (fun _ _ => Above.add) (Above.zero a) h

theorem Above.mono {a a' : ℕ} {O : CellTallies nD τ sig ℕ} (h : Above a O) (ha : a' ≤ a) : Above a' O := fun g ι hp =>
  ⟨(h g ι hp).1, ha.trans (h g ι hp).2.1, (h g ι hp).2.2⟩

theorem Above.tally {a : ℕ} (c : Dev nD) (s : SemLoc sig) {ι k : ℕ} (h : a ≤ ι) (h' : ι < 64) :
    Above a (tallyAt ((c : Thread nD τ), s) ι k) := fun g ι' hp => by
  rw [tallyAt_apply] at hp
  by_cases hg : g = ((c : Thread nD τ), s) ∧ ι' = ι
  · obtain ⟨rfl, rfl⟩ := hg; exact ⟨rfl, h, h'⟩
  · rw [if_neg hg] at hp; exact absurd hp (Nat.lt_irrefl 0)

theorem above_rcvDue (b : Bool) (c : Dev nD) {a k : ℕ} (h : a ≤ 2 * k + 2) (hk : k < 14) : Above a (rcvDue b c k) :=
  Above.tally _ _ h (by omega)
theorem above_crdDue (b : Bool) (c : Dev nD) {a k : ℕ} (h : a ≤ 2 * k + 3) : Above a (crdDue b c k) := by
  unfold crdDue
  split
  · exact Above.tally _ _ h (by omega)
  · exact Above.zero a

/-- From hop `k` on everything owed is at levels `2k + 2` and up. -/
theorem above_owed (c : Dev nD) (k : ℕ) : Above (2 * k + 2) (owed c k) :=
  Above.sum fun r hr => by
    rw [Finset.mem_Ico] at hr
    exact (((above_crdDue true c (by omega)).add (above_crdDue false c (by omega))).add (above_rcvDue true c (by omega) hr.2)).add
      (above_rcvDue false c (by omega) hr.2)
theorem above_owedC (c : Dev nD) (k : ℕ) : Above (2 * k + 3) (owedC c k) :=
  (((above_owed c (k + 1)).mono (by omega)).add (above_crdDue true c le_rfl)).add (above_crdDue false c le_rfl)
theorem above_owed₀ (c : Dev nD) : Above 1 (owed₀ c) :=
  (((above_owed c 0).mono (by omega)).add (Above.tally _ _ le_rfl (by omega))).add (Above.tally _ _ le_rfl (by omega))

/-- The indices used on a cell. -/
def L (g : GSem nD τ sig) : Finset ℕ := if g.1.2 = .tc then Finset.range 64 else ∅
/-- An index is its own level. -/
def lv (_ : GSem nD τ sig) (ι : ℕ) : ℕ := ι

theorem L_of_ne (g : GSem nD τ sig) (h : g.1.2 ≠ .tc) : L g = ∅ := if_neg h

/-- A wait at an index below everything owed is allowed. -/
theorem mayWait_of_above (c : Dev nD) (s : SemLoc sig) {ι a : ℕ} {O : CellTallies nD τ sig ℕ} (hO : Above a O) (h : ι < a) (hι : ι < 64) :
    (levAts L lv : sProp 𝕄) ⊢ MayWait (c : Thread nD τ) s ι O :=
  MayOwe.of_cut (L := L) (lev := lv) ι
    (fun p hp => by rw [Finset.mem_singleton.mp hp]; unfold L; rw [if_pos rfl]; exact Finset.mem_range.mpr hι)
    (fun g u hg => by unfold L; rw [if_pos (hO g u hg).1]; exact Finset.mem_range.mpr (hO g u hg).2.2)
    (fun p hp => by rw [Finset.mem_singleton.mp hp]; exact le_rfl)
    (fun g u hg => lt_of_lt_of_le h (hO g u hg).2.1)

end Cert.Rings

end

end
-- ==== Proof.Steps.lean ====
module

public import proofs.«01_k».proof.Proof.Sched

/-! # One lemma per effect of the kernel

The barrier's signals and wait, a hop's credit wait, messages, waits and credits, for either direction;
and the local effects (copies, loads, stores) on memrefs owned at known contents. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- What may hold after a program with results in `α`. -/
abbrev Post (F : FTy → Type) (α : Type) := α → sProp (MT nD τ sig ℕ (Elt F) ℕ UU ℕ)

/-- No loop of the program asks for a variant. -/
abbrev 𝒱₀ : Variants := Variants.none

/-- The weakest precondition of device `c`'s program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for. -/
abbrev ow (c : Dev nD) (O : CellTallies nD τ sig ℕ) : sProp 𝕄 := iprop(∃ W, owes (c : Thread nD τ) O W)

/-- The ring cells of a device, in order: the barrier, then departures, arrivals and credits of both directions. -/
def kcell (p : Dev nD × Fin 7) : GSem nD τ sig :=
  match p.2 with
  | ⟨0, _⟩ => barC p.1
  | ⟨1, _⟩ => sndC false p.1
  | ⟨2, _⟩ => sndC true p.1
  | ⟨3, _⟩ => rcvC false p.1
  | ⟨4, _⟩ => rcvC true p.1
  | ⟨5, _⟩ => crdC false p.1
  | ⟨_, _⟩ => crdC true p.1

/-- A cell's invariant is allocated and the cell has reached round 0. -/
abbrev rec1 (g : GSem nD τ sig) : sProp 𝕄 := iprop(∃ κ, cellInv ER (Rd m) κ g ∗ reached ER g 0)

instance rec1_persistent (g : GSem nD τ sig) : BI.Persistent (rec1 m g) := inferInstance

/-- That, of every ring cell of every device. -/
def records : sProp 𝕄 := bigSep Finset.univ fun p : Dev nD × Fin 7 => rec1 m (kcell p)

instance records_persistent : BI.Persistent (records m) := by unfold records; infer_instance

theorem rec_at (p : Dev nD × Fin 7) : records m ⊢ rec1 m (kcell p) := by
  unfold records
  exact bigSep_elim (Finset.mem_univ p)

theorem rec_bar (c : Dev nD) : records m ⊢ rec1 m (barC c) := rec_at m (c, 0)
theorem rec_snd (b : Bool) (c : Dev nD) : records m ⊢ rec1 m (sndC b c) := by
  cases b
  · exact rec_at m (c, 1)
  · exact rec_at m (c, 2)
theorem rec_rcv (b : Bool) (c : Dev nD) : records m ⊢ rec1 m (rcvC b c) := by
  cases b
  · exact rec_at m (c, 3)
  · exact rec_at m (c, 4)
theorem rec_crd (b : Bool) (c : Dev nD) : records m ⊢ rec1 m (crdC b c) := by
  cases b
  · exact rec_at m (c, 5)
  · exact rec_at m (c, 6)

section Ring
variable {α : Type} {Q : Post F α} {k : PUnit → Prog (TpuEff nD τ sig (Elt F) Λ₀ .tc) α} (c : Dev nD)

/-- The barrier signal to the device that `c` receives from in direction `b`: it hands over `c`'s landing buffer. -/
theorem wp_bar_signal (b : Bool) (n : Dev nD) (hn : n = up b c) {k' : ℕ} (hk : k' = 1) (O : CellTallies nD τ sig ℕ) :
    iprop(records m ∗ ow c (O + barDue b c) ∗ dutyTok ER (barC (up b c)) 0 b ∗ ownE (F := F) c (dstM b 0))
      ⊢ iprop((ow c O -∗ WP c (k ⟨⟩) Q) -∗ WP c (.op (.semSignal (n : Thread nD τ) barD k') k) Q) := by
  subst hn hk
  iintro ⟨#HR, ⟨%W, HO⟩, Ht, HB⟩ Hk
  ihave H1 := (rec_bar m (up b c)) $$ HR
  ihave H2 := (rec_rcv m b c) $$ HR
  icases H1 with ⟨%κ, #HI, #Hr⟩
  icases H2 with ⟨%κ', -, #Hr'⟩
  iapply (Rounds.wp_signal 𝒱₀ ER (Rd m) (c : Thread nD τ) none (dst := (up b c : Thread nD τ)) (κ := κ)
      (d := b) (by rw [duties_bar]; exact Finset.mem_univ _) (amount_bar m (up b c) 0 b) 1 O rfl) $$ [HO Ht HB]
  · isplitr; · iexact HI
    isplitl [HO]; · iexact HO
    isplitl [Ht]; · iexact Ht
    isplitl [HB]
    · rw [payload_bar]; unfold slotPay; rw [dn_up]
      isplitl [HB]; · iexact HB
      iexact Hr'
    iexact Hr
  iintro HO
  iapply Hk
  iexists W; iexact HO

/-- The barrier wait: both neighbours' landing buffers. -/
theorem wp_bar_wait {w : TpuEff nD τ sig (Elt F) Λ₀ .tc PUnit} {k' : ℕ} (hk : k' = 2)
    (hw : ∀ K : PUnit → sProp 𝕄, wpE (defs₀ (F := F)) 𝒱₀ (c : Thread nD τ) none Set.univ w K = waitSpec (c : Thread nD τ) Set.univ barS k' K)
    (O : CellTallies nD τ sig ℕ) (hO : Above 2 O) :
    iprop(records m ∗ levAts L lv ∗ ow c O ∗ cred (tallyAt (barC c) 1 2) ∗ atPos ER (barC c) 0 ∅ 0)
      ⊢ iprop(((ow c O ∗ atPos ER (barC c) 1 ∅ 0 ∗ slotPay (F := F) false c 0 ∗ slotPay (F := F) true c 0) -∗ WP c (k ⟨⟩) Q)
          -∗ WP c (.op w k) Q) := by
  subst hk
  iintro ⟨#HR, #Hl, ⟨%W, HO⟩, Hc, Ha⟩ Hk
  ihave H1 := (rec_bar m c) $$ HR
  icases H1 with ⟨%κ, #HI, -⟩
  iapply (Rounds.wp_wait_rest_token 𝒱₀ ER (Rd m) (c : Thread nD τ) none (κ := κ) hw (Set.mem_univ _) 1 (O := O) (W := W)
      (R := 0) (m := 0) (T := ∅) (by rw [expect_bar])) $$ [Hc HO Ha]
  · isplitr; · iexact HI
    isplitl [Hc]; · iexact Hc
    isplitl [HO]; · iexact HO
    isplitr; · iapply (mayWait_of_above c barS hO (by omega) (by omega)); iexact Hl
    iexact Ha
  iintro ⟨HO, Ha, -, Hp⟩
  ihave Hp := (Entails.of_eq (rest_bar m c)) $$ Hp
  icases Hp with ⟨H1, H2⟩
  iapply Hk
  isplitl [HO]; · iexists _; iexact HO
  isplitl [Ha]; · iexact Ha
  isplitl [H1] <;> iassumption

/-- The credit wait of round `r`: the landing buffer of hop `r + 1`. -/
theorem wp_crd_wait (b : Bool) (r : ℕ) (hr : r < 13) {w : TpuEff nD τ sig (Elt F) Λ₀ .tc PUnit} {k' : ℕ} (hk : k' = 1)
    (hw : ∀ K : PUnit → sProp 𝕄, wpE (defs₀ (F := F)) 𝒱₀ (c : Thread nD τ) none Set.univ w K = waitSpec (c : Thread nD τ) Set.univ (crdS b) k' K)
    (O : CellTallies nD τ sig ℕ) (hO : Above (2 * r + 4) O) :
    iprop(records m ∗ levAts L lv ∗ ow c O ∗ cred (tallyAt (crdC b c) (2 * r + 3) 1) ∗ atPos ER (crdC b c) r ∅ 0)
      ⊢ iprop(((ow c O ∗ atPos ER (crdC b c) (r + 1) ∅ 0 ∗ reached ER (crdC b c) (r + 1) ∗ slotPay (F := F) b c (r + 1)) -∗ WP c (k ⟨⟩) Q)
          -∗ WP c (.op w k) Q) := by
  subst hk
  iintro ⟨#HR, #Hl, ⟨%W, HO⟩, Hc, Ha⟩ Hk
  ihave H1 := (rec_crd m b c) $$ HR
  icases H1 with ⟨%κ, #HI, -⟩
  iapply (Rounds.wp_wait_rest_token 𝒱₀ ER (Rd m) (c : Thread nD τ) none (κ := κ) hw (Set.mem_univ _) (2 * r + 3) (O := O) (W := W)
      (R := r) (m := 0) (T := ∅) (by rw [expect_crd m b c r hr])) $$ [Hc HO Ha]
  · isplitr; · iexact HI
    isplitl [Hc]; · iexact Hc
    isplitl [HO]; · iexact HO
    isplitr; · iapply (mayWait_of_above c (crdS b) hO (by omega) (by omega)); iexact Hl
    iexact Ha
  iintro ⟨HO, Ha, Hr, Hp⟩
  ihave Hp := (Entails.of_eq (rest_crd m b c r hr)) $$ Hp
  iapply Hk
  isplitl [HO]; · iexists _; iexact HO
  isplitl [Ha]; · iexact Ha
  isplitl [Hr] <;> iassumption

/-- The wait for hop `r`'s departure: the source buffer is back. -/
theorem wp_snd_wait (b : Bool) (r : ℕ) (hr : r < 14) {w : TpuEff nD τ sig (Elt F) Λ₀ .tc PUnit} {k' : ℕ} (hk : k' = NN)
    (hw : ∀ K : PUnit → sProp 𝕄, wpE (defs₀ (F := F)) 𝒱₀ (c : Thread nD τ) none Set.univ w K = waitSpec (c : Thread nD τ) Set.univ (sndS b) k' K)
    (O : CellTallies nD τ sig ℕ) (hO : Above 1 O) :
    iprop(records m ∗ levAts L lv ∗ ow c O ∗ cred (tallyAt (sndC b c) 0 NN) ∗ atPos ER (sndC b c) r ∅ 0)
      ⊢ iprop(((ow c O ∗ atPos ER (sndC b c) (r + 1) ∅ 0 ∗ reached ER (sndC b c) (r + 1) ∗ sndPay m b c r) -∗ WP c (k ⟨⟩) Q)
          -∗ WP c (.op w k) Q) := by
  subst hk
  iintro ⟨#HR, #Hl, ⟨%W, HO⟩, Hc, Ha⟩ Hk
  ihave H1 := (rec_snd m b c) $$ HR
  icases H1 with ⟨%κ, #HI, -⟩
  iapply (Rounds.wp_wait_rest_token 𝒱₀ ER (Rd m) (c : Thread nD τ) none (κ := κ) hw (Set.mem_univ _) 0 (O := O) (W := W)
      (R := r) (m := 0) (T := ∅) (by rw [expect_snd m b c r hr, Nat.zero_add])) $$ [Hc HO Ha]
  · isplitr; · iexact HI
    isplitl [Hc]; · iexact Hc
    isplitl [HO]; · iexact HO
    isplitr; · iapply (mayWait_of_above c (sndS b) hO (by omega) (by omega)); iexact Hl
    iexact Ha
  iintro ⟨HO, Ha, Hr, Hp⟩
  ihave Hp := (Entails.of_eq (rest_snd m b c r hr)) $$ Hp
  iapply Hk
  isplitl [HO]; · iexists _; iexact HO
  isplitl [Ha]; · iexact Ha
  isplitl [Hr] <;> iassumption

/-- The wait for hop `r`'s arrival: the landed message. -/
theorem wp_rcv_wait (b : Bool) (r : ℕ) (hr : r < 14) {w : TpuEff nD τ sig (Elt F) Λ₀ .tc PUnit} {k' : ℕ} (hk : k' = NN)
    (hw : ∀ K : PUnit → sProp 𝕄, wpE (defs₀ (F := F)) 𝒱₀ (c : Thread nD τ) none Set.univ w K = waitSpec (c : Thread nD τ) Set.univ (rcvS b) k' K)
    (O : CellTallies nD τ sig ℕ) (hO : Above (2 * r + 3) O) :
    iprop(records m ∗ levAts L lv ∗ ow c O ∗ cred (tallyAt (rcvC b c) (2 * r + 2) NN) ∗ atPos ER (rcvC b c) r ∅ 0)
      ⊢ iprop(((ow c O ∗ atPos ER (rcvC b c) (r + 1) ∅ 0 ∗ reached ER (rcvC b c) (r + 1) ∗ rcvPay m b c r) -∗ WP c (k ⟨⟩) Q)
          -∗ WP c (.op w k) Q) := by
  subst hk
  iintro ⟨#HR, #Hl, ⟨%W, HO⟩, Hc, Ha⟩ Hk
  ihave H1 := (rec_rcv m b c) $$ HR
  icases H1 with ⟨%κ, #HI, -⟩
  iapply (Rounds.wp_wait_rest_token 𝒱₀ ER (Rd m) (c : Thread nD τ) none (κ := κ) hw (Set.mem_univ _) (2 * r + 2) (O := O) (W := W)
      (R := r) (m := 0) (T := ∅) (by rw [expect_rcv m b c r hr, Nat.zero_add])) $$ [Hc HO Ha]
  · isplitr; · iexact HI
    isplitl [Hc]; · iexact Hc
    isplitl [HO]; · iexact HO
    isplitr; · iapply (mayWait_of_above c (rcvS b) hO (by omega) (by omega)); iexact Hl
    iexact Ha
  iintro ⟨HO, Ha, Hr, Hp⟩
  ihave Hp := (Entails.of_eq (rest_rcv m b c r hr)) $$ Hp
  iapply Hk
  isplitl [HO]; · iexists _; iexact HO
  isplitl [Ha]; · iexact Ha
  isplitl [Hr] <;> iassumption

/-- The credit signal of round `r`, to the device that `c` receives from: `c`'s landing buffer of hop `r + 1`. -/
theorem wp_crd_signal (b : Bool) (r : ℕ) (hr : r < 13) (n : Dev nD) (hn : n = up b c) {k' : ℕ} (hk : k' = 1) (O : CellTallies nD τ sig ℕ) :
    iprop(records m ∗ ow c (O + crdDue b c r) ∗ dutyTok ER (crdC b (up b c)) r false ∗ reached ER (crdC b (up b c)) r
        ∗ ownE (F := F) c (dstM b (r + 1)) ∗ reached ER (rcvC b c) (r + 1))
      ⊢ iprop((ow c O -∗ WP c (k ⟨⟩) Q) -∗ WP c (.op (.semSignal (n : Thread nD τ) (crdD b) k') k) Q) := by
  subst hn hk
  iintro ⟨#HR, ⟨%W, HO⟩, Ht, #Hr, HB, #Hr'⟩ Hk
  ihave H1 := (rec_crd m b (up b c)) $$ HR
  icases H1 with ⟨%κ, #HI, -⟩
  iapply (Rounds.wp_signal 𝒱₀ ER (Rd m) (c : Thread nD τ) none (dst := (up b c : Thread nD τ)) (κ := κ) (r := r)
      (d := false) (by rw [duties_crd m b (up b c) r hr]; exact Finset.mem_singleton_self _) (amount_crd m b (up b c) r false) (2 * r + 3) (O₀ := O + crdDue b c r) O
      (by unfold crdDue; rw [if_pos hr])) $$ [HO Ht HB]
  · isplitr; · iexact HI
    isplitl [HO]; · iexact HO
    isplitl [Ht]; · iexact Ht
    isplitl [HB]
    · rw [payload_crd]; unfold slotPay; rw [dn_up]
      isplitl [HB]; · iexact HB
      iexact Hr'
    iexact Hr
  iintro HO
  iapply Hk
  iexists W; iexact HO

/-- The message of hop `r` in direction `b`. -/
theorem wp_send (b : Bool) (r : ℕ) (hr : r < 14) (n : Dev nD) (hn : n = dn b c)
    {src dst : Memref sig .tc .vmem S512x4096 .bf16} (hs : src = srcM b r) (hd : dst = dstM b r)
    (hN : dst.view.amount (rcvS b) = NN)
    {hsc : (dst : Memref sig (Dev.tc n : Thread nD τ).2.kind .vmem S512x4096 .bf16).view.ref.isScScratch = false}
    {hsrc : src.view.WordExact} {hdst : dst.view.WordExact}
    {hsem : DmaTarget.Typed .vmem (rcvS b) (.remote (Dev.tc n : Thread nD τ) dst (sndS b) hsc)} (O : CellTallies nD τ sig ℕ) :
    iprop(records m ∗ ow c (O + rcvDue b c r) ∗ ownF c (srcM b r) (v m b r c) ∗ slotPay (F := F) b c r ∗ reached ER (crdC b c) r
        ∗ dutyTok ER (sndC b c) r false ∗ reached ER (sndC b c) r ∗ dutyTok ER (rcvC b (dn b c)) r false)
      ⊢ iprop(((ow c O ∗ cred (tallyAt (sndC b c) 0 NN)) -∗ WP c (k ⟨⟩) Q)
          -∗ WP c (.op (.enqueueDma src (.remote (Dev.tc n : Thread nD τ) dst (sndS b) hsc) (rcvS b) hsrc hdst hsem) k) Q) := by
  subst hn hs hd
  iintro ⟨#HR, ⟨%W, HO⟩, Hs, Hd, #Hrc, Ht, #Hrs, Ht'⟩ Hk
  ihave H1 := (rec_snd m b c) $$ HR
  ihave H2 := (rec_rcv m b (dn b c)) $$ HR
  icases H1 with ⟨%κ, #HI, -⟩
  icases H2 with ⟨%κ', #HI', -⟩
  unfold slotPay
  icases Hd with ⟨⟨%Y, Hd⟩, #Hrr⟩
  ihave Hs := (show ownF c (srcM b r) (v m b r c) ⊢ (iprop(∃ f, ⌜(srcM b r).view.read (Elt F) f = v m b r c⌝
      ∗ ((srcM b r).view.loc (c : Thread nD τ) ↦[(srcM b r).view.set]{fullShare} f)) : sProp 𝕄) from .rfl) $$ Hs
  ihave Hd := (show ownF (dn b c) (dstM b r) Y ⊢ (iprop(∃ f, ⌜(dstM b r).view.read (Elt F) f = Y⌝
      ∗ ((dstM b r).view.loc (dn b c : Thread nD τ) ↦[(dstM b r).view.set]{fullShare} f)) : sProp 𝕄) from .rfl) $$ Hd
  icases Hs with ⟨%fs, %hfs, Hs⟩
  icases Hd with ⟨%fd, -, Hd⟩
  iapply (Rounds.wp_send_pointsTo_with 𝒱₀ ER (Rd m) (c : Thread nD τ) none (κ₁ := κ) (κ₂ := κ')
      (F := reached ER (crdC b c) r)
      (r₁ := r) (r₂ := r) (d₁ := false) (d₂ := false) (fs := fs) (fd := fd)
      (by rw [duties_snd m b c r hr]; exact Finset.mem_singleton_self _) (by rw [duties_rcv m b (dn b c) r hr]; exact Finset.mem_singleton_self _)
      (2 * r + 2) 0 NN hN (amount_snd m b c r false) (amount_rcv m b (dn b c) r false) O rfl (W := W)
      (by rw [payload_snd]; unfold sndPay; rw [← hfs]; exact owns_intro _ _ _ _)
      (by
        rw [payload_rcv]; unfold rcvPay; rw [up_dn]
        refine sep_mono_left ?_
        have h := owns_intro (Ix := ℕ) (Name := ℕ) (U := UU) (Lvl := ℕ) (Val := Elt F) (dn b c : Thread nD τ) (dstM b r) fullShare
          ((dstM b r).view.write (Elt F) fd ((srcM b r).view.read (Elt F) fs) Finset.univ)
        rw [View.read_write_univ, hfs] at h
        rw [hfs]; exact h)) $$ [Hs Hd HO Ht Ht']
  · isplitr; · iexact HI
    isplitr; · iexact HI'
    isplitl [Hs]; · iexact Hs
    isplitl [Hd]
    · isplitl [Hd]; · iexact Hd
      iexact Hrc
    isplitl [HO]; · iexact HO
    isplitl [Ht]; · iexact Ht
    isplitr; · iexact Hrs
    isplitl [Ht']; · iexact Ht'
    iexact Hrr
  iintro ⟨Hc, HO⟩
  iapply Hk
  isplitl [HO]; · iexists W; iexact HO
  iexact Hc

end Ring

section Local
variable {α : Type} {Q : Post F α} (c : Dev nD)

/-- A local copy: while in flight it holds both ends, and lands the source's contents in the destination. -/
theorem wp_copy {k : PUnit → Prog (TpuEff nD τ sig (Elt F) Λ₀ .tc) α} {sp sp' : Space} {sh : Shape} {e : EltTy}
    {A : Memref sig .tc sp sh e} {B : Memref sig .tc sp' sh e} {sm : SemLoc sig} {hsrc : A.view.WordExact} {hdst : B.view.WordExact}
    {hsem : DmaTarget.Typed (nD := nD) (τ := τ) (p := .tc) sp sm (.here B)} (q : PosShare TreeShare) (X : sh.Idx → Elt F e) (N : ℕ)
    (hN : B.view.amount sm = N) (hN0 : 0 < N) :
    iprop(owns (c : Thread nD τ) A q X ∗ ownE (F := F) c B ∗ semVal ((c : Thread nD τ), sm) 0)
      ⊢ iprop((Transfers.Flight EC (c : Thread nD τ) sm 0 N iprop(ownF c B X ∗ owns (c : Thread nD τ) A q X) -∗ WP c (k ⟨⟩) Q)
          -∗ WP c (.op (.enqueueDma A (.here B) sm hsrc hdst hsem) k) Q) := by
  iintro ⟨HA, ⟨%Y, HB⟩, Hv⟩ Hk
  ihave HA := (show owns (c : Thread nD τ) A q X ⊢ (iprop(∃ f, ⌜A.view.read (Elt F) f = X⌝
      ∗ (A.view.loc (c : Thread nD τ) ↦[A.view.set]{q} f)) : sProp 𝕄) from .rfl) $$ HA
  ihave HB := (show ownF c B Y ⊢ (iprop(∃ f, ⌜B.view.read (Elt F) f = Y⌝
      ∗ (B.view.loc (c : Thread nD τ) ↦[B.view.set]{fullShare} f)) : sProp 𝕄) from .rfl) $$ HB
  icases HA with ⟨%fs, %hfs, HA⟩
  icases HB with ⟨%fd, -, HB⟩
  iapply (Transfers.wp_dmaLocal EC 𝒱₀ (c : Thread nD τ) none 0 N hN hN0 (Finset.Subset.refl _) (fs := fs) (fd := fd)) $$ [HA HB Hv]
  · isplitl [HA]; · iexact HA
    isplitl [HB] <;> iassumption
  iintro HF
  iapply Hk
  iapply (Transfers.Flight_mono EC (c : Thread nD τ) ?_) $$ HF
  subst hfs
  have h := owns_intro (Ix := ℕ) (Name := ℕ) (U := UU) (Lvl := ℕ) (Val := Elt F) (c : Thread nD τ) B fullShare
    (B.view.write (Elt F) fd (A.view.read (Elt F) fs) Finset.univ)
  rw [View.read_write_univ] at h
  exact BI.sep_mono h (owns_intro _ _ _ _)

/-- The wait for a local copy: both ends are back. -/
theorem wp_copy_wait {k : PUnit → Prog (TpuEff nD τ sig (Elt F) Λ₀ .tc) α} {sp sp' : Space} {s s' : Shape} {e e' : EltTy} {sem : DmaSem sig}
    {srcw : Memref sig .tc sp' s' e'} {dstw : Memref sig .tc sp s e} {hsrc : srcw.view.WordExact} {hdst : dstw.view.WordExact}
    {N : ℕ} (hN : dstw.view.dmaCredit = N) {D : sProp 𝕄} (O : CellTallies nD τ sig ℕ) (hO : Above 1 O) :
    iprop(levAts L lv ∗ Transfers.Flight EC (c : Thread nD τ) (.dma sem) 0 N D ∗ ow c O)
      ⊢ iprop(((D ∗ semVal ((c : Thread nD τ), .dma sem) 0 ∗ ow c O) -∗ WP c (k ⟨⟩) Q)
          -∗ WP c (.op (.waitDma2 sem srcw dstw hsrc hdst) k) Q) := by
  iintro ⟨#Hl, HF, ⟨%W, HO⟩⟩ Hk
  iapply (Transfers.wp_waitLocalO EC 𝒱₀ (c : Thread nD τ) none 0 hN (O := O) (W := W)) $$ [HF HO]
  · isplitl [HF]; · iexact HF
    isplitl [HO]; · iexact HO
    iapply (mayWait_of_above c (.dma sem) hO (by omega) (by omega)); iexact Hl
  iintro ⟨HD, Hv, HO⟩
  iapply Hk
  isplitl [HD]; · iexact HD
  isplitl [Hv]; · iexact Hv
  iexists _; iexact HO

/-- A load through a rectangle of a memref, that slice owned at `X`. -/
theorem wp_load_slice {sp : CoreSpace} {sh : Shape} {e : EltTy} {M : Memref sig .tc sp sh e} {r : Rect sh} (hr : ∀ a, r.stride a = 1)
    {hl : M.view.LoadsAt r.toLoadRect}
    {k : (r.shape.Idx → Elt F e) → Prog (TpuEff nD τ sig (Elt F) Λ₀ .tc) α} (q : PosShare TreeShare) (X : r.shape.Idx → Elt F e) :
    (owns (c : Thread nD τ) (M.slice r hr) q X : sProp 𝕄)
      ⊢ iprop((owns (c : Thread nD τ) (M.slice r hr) q X -∗ WP c (k X) Q) -∗ WP c (.op (.load M r.toLoadRect hl) k) Q) := by
  iintro HA Hk
  ihave HA := (show owns (c : Thread nD τ) (M.slice r hr) q X ⊢ (iprop(∃ f, ⌜(M.view.slice r).read (Elt F) f = X⌝
      ∗ ((M.view.slice r).loc (c : Thread nD τ) ↦[(M.view.slice r).set]{q} f)) : sProp 𝕄) from .rfl) $$ HA
  icases HA with ⟨%f, %hf, HA⟩
  subst hf
  iapply (wp_load_rect 𝒱₀ (c : Thread nD τ) none Set.univ (m := M) (r := r) (hl := hl) (Finset.Subset.refl _)) $$ HA
  iintro HA
  iapply Hk
  iapply (owns_intro (c : Thread nD τ) (M.slice r hr) q f); iexact HA

/-- A store through a rectangle of a memref, that slice owned. -/
theorem wp_store_slice {sp : CoreSpace} {sh : Shape} {e : EltTy} {M : Memref sig .tc sp sh e} {r : Rect sh} (hr : ∀ a, r.stride a = 1)
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} :
    (ownE (F := F) c (M.slice r hr) : sProp 𝕄)
      ⊢ iprop((ownF c (M.slice r hr) w -∗ WP c (k ⟨⟩) Q) -∗ WP c (.op (.store M r w Finset.univ hx hm) k) Q) := by
  iintro ⟨%Y, HA⟩ Hk
  ihave HA := (show ownF c (M.slice r hr) Y ⊢ (iprop(∃ f, ⌜(M.view.slice r).read (Elt F) f = Y⌝
      ∗ ((M.view.slice r).loc (c : Thread nD τ) ↦[(M.view.slice r).set]{fullShare} f)) : sProp 𝕄) from .rfl) $$ HA
  icases HA with ⟨%f, -, HA⟩
  iapply (wp_store 𝒱₀ (c : Thread nD τ) none Set.univ (m := M) (r := r) (Mk := Finset.univ) (hx := hx) (hm := hm)
    (S := (M.view.slice r).set) (by rw [View.setOn_univ])) $$ HA
  iintro HA
  iapply Hk
  have h := owns_intro (Ix := ℕ) (Name := ℕ) (U := UU) (Lvl := ℕ) (Val := Elt F) (c : Thread nD τ) (M.slice r hr) fullShare
    ((M.access r).write (Elt F) f w Finset.univ)
  rw [show (M.slice r hr).view.read (Elt F) ((M.access r).write (Elt F) f w Finset.univ) = w from View.read_write_univ (v := M.access r) f w] at h
  iapply h; iexact HA

/-- The rectangle of a whole shape places every index at itself. -/
theorem emb_all {sh : Shape} {off : Fin sh.rank → ℕ} (hz : off = fun _ => 0) (hb : ∀ a, off a + sh.size a ≤ sh.size a) (j : sh.Idx) :
    (Rect.unit (s := sh) off sh.size hb).emb j = j := by
  subst hz
  funext a
  apply Fin.ext
  rw [Rect.emb_apply]; simp

/-- A load of a whole memref. -/
theorem wp_load_all {sp : CoreSpace} {sh : Shape} {e : EltTy} {M : Memref sig .tc sp sh e} {off : Fin sh.rank → ℕ} (hz : off = fun _ => 0)
    {hb : ∀ a, off a + sh.size a ≤ sh.size a} {hl : M.view.LoadsAt (Rect.unit (s := sh) off sh.size hb).toLoadRect}
    {k : (sh.Idx → Elt F e) → Prog (TpuEff nD τ sig (Elt F) Λ₀ .tc) α} (q : PosShare TreeShare) (X : sh.Idx → Elt F e) :
    (owns (c : Thread nD τ) M q X : sProp 𝕄)
      ⊢ iprop((owns (c : Thread nD τ) M q X -∗ WP c (k X) Q) -∗ WP c (.op (.load M (Rect.unit (s := sh) off sh.size hb).toLoadRect hl) k) Q) := by
  iintro HA Hk
  ihave HA := (show owns (c : Thread nD τ) M q X ⊢ (iprop(∃ f, ⌜M.view.read (Elt F) f = X⌝
      ∗ (M.view.loc (c : Thread nD τ) ↦[M.view.set]{q} f)) : sProp 𝕄) from .rfl) $$ HA
  icases HA with ⟨%f, %hf, HA⟩
  subst hf
  iapply (wp_load_rect 𝒱₀ (c : Thread nD τ) none Set.univ (m := M) (r := Rect.unit (s := sh) off sh.size hb) (hl := hl)
    (S := M.view.set) (View.set_slice_subset _ _)) $$ HA
  iintro HA
  rw [show (M.access (Rect.unit (s := sh) off sh.size hb)).read (Elt F) f = M.view.read (Elt F) f from
    funext fun j => congrArg (M.view.read (Elt F) f) (emb_all hz hb j)]
  iapply Hk
  iapply (owns_intro (c : Thread nD τ) M q f); iexact HA

/-- A store to a whole memref. -/
theorem wp_store_all {sp : CoreSpace} {sh : Shape} {e : EltTy} {M : Memref sig .tc sp sh e} {off : Fin sh.rank → ℕ} (hz : off = fun _ => 0)
    {hb : ∀ a, off a + sh.size a ≤ sh.size a} {w : sh.Idx → Elt F e}
    {hx : (M.access (Rect.unit (s := sh) off sh.size hb)).Stores Finset.univ}
    {hm : (Finset.univ : Finset (Rect.unit (s := sh) off sh.size hb).shape.Idx) = Finset.univ ∨ ∀ a, (Rect.unit (s := sh) off sh.size hb).stride a = 1}
    {k : PUnit → Prog (TpuEff nD τ sig (Elt F) Λ₀ .tc) α} :
    (ownE (F := F) c M : sProp 𝕄)
      ⊢ iprop((ownF c M w -∗ WP c (k ⟨⟩) Q) -∗ WP c (.op (.store M (Rect.unit (s := sh) off sh.size hb) w Finset.univ hx hm) k) Q) := by
  iintro ⟨%Y, HA⟩ Hk
  ihave HA := (show ownF c M Y ⊢ (iprop(∃ f, ⌜M.view.read (Elt F) f = Y⌝
      ∗ (M.view.loc (c : Thread nD τ) ↦[M.view.set]{fullShare} f)) : sProp 𝕄) from .rfl) $$ HA
  icases HA with ⟨%f, -, HA⟩
  iapply (wp_store 𝒱₀ (c : Thread nD τ) none Set.univ (m := M) (r := Rect.unit (s := sh) off sh.size hb) (Mk := Finset.univ) (hx := hx) (hm := hm)
    (S := M.view.set) (by rw [View.setOn_univ]; exact View.set_slice_subset _ _)) $$ HA
  iintro HA
  iapply Hk
  have h := owns_intro (Ix := ℕ) (Name := ℕ) (U := UU) (Lvl := ℕ) (Val := Elt F) (c : Thread nD τ) M fullShare
    ((M.access (Rect.unit (s := sh) off sh.size hb)).write (Elt F) f w Finset.univ)
  have h' : M.view.read (Elt F) ((M.access (Rect.unit (s := sh) off sh.size hb)).write (Elt F) f w Finset.univ) = w := by
    rw [← (show (M.access (Rect.unit (s := sh) off sh.size hb)).read (Elt F) _ = M.view.read (Elt F) _ from
      funext fun j => congrArg (M.view.read (Elt F) _) (emb_all hz hb j))]
    exact View.read_write_univ (v := M.access (Rect.unit (s := sh) off sh.size hb)) f w
  rw [h'] at h
  iapply h; iexact HA

end Local

end Cert.Rings

end

end
-- ==== Proof.Local.lean ====
module

public import proofs.«01_k».proof.Proof.Steps

/-! # The local copies

What the accumulator, the staging buffers and the weight look like in slices, and the copies between
them and the device's arrays: of a block of `x` to a staging slot, of a part of the weight to its
staging buffer, and of a half of the accumulator to the result. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## Slices -/

/-- The slot of direction `b`. -/
def slo (b : Bool) : ℕ := match b with | false => 0 | true => 1
/-- The first accumulator row of direction `b`. -/
def aof (b : Bool) : ℕ := match b with | false => 0 | true => 512

theorem inb_sl (b : Bool) : ∀ a, (![slo b, 0, 0] : Fin 3 → ℕ) a + S1x512x1024.size a ≤ S2x512x1024.size a := by
  revert b; decide
theorem inb_ac (b : Bool) : ∀ a, (![aof b, 0] : Fin 2 → ℕ) a + S512x4096.size a ≤ S1024x4096.size a := by
  revert b; decide
theorem inb_wr (i : Fin 4) : ∀ a, (![256 * i.val, 0] : Fin 2 → ℕ) a + S256x4096.size a ≤ S1024x4096.size a := by
  revert i; decide

/-- The slot of direction `b` as a rectangle. -/
abbrev slR (b : Bool) : Rect S2x512x1024 := Rect.unit (s := S2x512x1024) ![slo b, 0, 0] S1x512x1024.size (inb_sl b)
/-- The half of direction `b` of the accumulator. -/
abbrev aR (b : Bool) : Rect S1024x4096 := Rect.unit (s := S1024x4096) ![aof b, 0] S512x4096.size (inb_ac b)
/-- The `i`-th quarter of the weight's rows. -/
abbrev wR (i : Fin 4) : Rect S1024x4096 := Rect.unit (s := S1024x4096) ![256 * i.val, 0] S256x4096.size (inb_wr i)

/-- The staging slot of direction `b`. -/
abbrev xsl (b : Bool) : Memref sig .tc .vmem S1x512x1024 .f32 := A5.slice (slR b) (fun _ => rfl)
/-- The same, as a block of rows. -/
abbrev xsq (b : Bool) : Memref sig .tc .vmem S512x1024 .f32 := (xsl b).squeeze S512x1024 squeezes_S1x512x1024_S512x1024
/-- The slot of rounded rows of direction `b`. -/
abbrev xbs (b : Bool) : Memref sig .tc .vmem S1x512x1024 .bf16 := A6.slice (slR b) (fun _ => rfl)
/-- The accumulator of direction `b`. -/
abbrev acc (b : Bool) : Memref sig .tc .vmem S512x4096 .f32 := A7.slice (aR b) (fun _ => rfl)

/-- The share of `x` that direction `b`'s copies use. -/
def shr (b : Bool) : PosShare TreeShare := match b with | false => fullShare.left | true => fullShare.right

/-! ## Slices held as values -/

/-- A region read through a memref is one slice and the rest. -/
theorem carve (c : Dev nD) {sp : Space} {sh : Shape} {e : EltTy} (M : Memref sig .tc sp sh e) (r : Rect sh) (hr : ∀ a, r.stride a = 1)
    (q : PosShare TreeShare) (f : M.view.ty.Contents (Elt F)) :
    (M.view.loc (c : Thread nD τ) ↦[M.view.set]{q} f : sProp 𝕄)
      ⊣⊢ iprop(owns (c : Thread nD τ) (M.slice r hr) q (fun j => M.view.read (Elt F) f (r.emb j))
          ∗ (M.view.loc (c : Thread nD τ) ↦[M.view.set \ (M.view.slice r).set]{q} f)) := by
  rw [owns_slice_read]
  exact pointsTo_split_subset (M.view.set_slice_subset r)

/-- A memref of another shape of the same size holds the same contents in that shape. -/
theorem owns_squeeze (c : Dev nD) {sp : Space} {sh sh' : Shape} {e : EltTy} (M : Memref sig .tc sp sh e) (h : sh.Squeezes sh')
    (h' : sh.ShapeCasts sh') (q : PosShare TreeShare) (X : sh.Idx → Elt F e) :
    (owns (c : Thread nD τ) M q X : sProp 𝕄) ⊢ owns (c : Thread nD τ) (M.squeeze sh' h) q (shapeCast sh' X h') := by
  iintro H
  ihave H := (show owns (c : Thread nD τ) M q X ⊢ (iprop(∃ f, ⌜M.view.read (Elt F) f = X⌝
      ∗ (M.view.loc (c : Thread nD τ) ↦[M.view.set]{q} f)) : sProp 𝕄) from .rfl) $$ H
  icases H with ⟨%f, %hf, H⟩
  subst hf
  have h1 := owns_intro (Ix := ℕ) (Name := ℕ) (U := UU) (Lvl := ℕ) (Val := Elt F) (c : Thread nD τ) (M.squeeze sh' h) q f
  rw [show (M.squeeze sh' h).view.set = M.view.set from View.set_reshape ..] at h1
  iapply h1; iexact H

/-- And back. -/
theorem owns_unsqueeze (c : Dev nD) {sp : Space} {sh sh' : Shape} {e : EltTy} (M : Memref sig .tc sp sh e) (h : sh.Squeezes sh')
    (h' : sh'.ShapeCasts sh) (q : PosShare TreeShare) (X : sh'.Idx → Elt F e) :
    (owns (c : Thread nD τ) (M.squeeze sh' h) q X : sProp 𝕄) ⊢ owns (c : Thread nD τ) M q (shapeCast sh X h') := by
  iintro H
  ihave H := (show owns (c : Thread nD τ) (M.squeeze sh' h) q X ⊢ (iprop(∃ f, ⌜(M.squeeze sh' h).view.read (Elt F) f = X⌝
      ∗ ((M.squeeze sh' h).view.loc (c : Thread nD τ) ↦[(M.squeeze sh' h).view.set]{q} f)) : sProp 𝕄) from .rfl) $$ H
  icases H with ⟨%f, %hf, H⟩
  have h1 := owns_intro (Ix := ℕ) (Name := ℕ) (U := UU) (Lvl := ℕ) (Val := Elt F) (c : Thread nD τ) M q f
  rw [← show (M.squeeze sh' h).view.set = M.view.set from View.set_reshape .., show M.view.read (Elt F) f = shapeCast sh X h' by
    rw [← hf]; funext j
    show M.view.read (Elt F) f j = M.view.read (Elt F) f (Shape.reshapeEquiv _ (Shape.reshapeEquiv _ j))
    rw [Shape.reshapeEquiv_reshapeEquiv, Shape.reshapeEquiv_self]] at h1
  iapply h1; iexact H

/-! ## A block of `x` -/

/-- What one block of `x` adds to the semaphore of its slot. -/
def NX : ℕ := (xsq false).view.dmaCredit
theorem NX_pos : 0 < NX := by decide +kernel

/-- Direction `b`'s share of `x`. -/
def xHold (b : Bool) (c : Dev nD) : sProp 𝕄 := A0.view.loc (c : Thread nD τ) ↦[A0.view.set]{shr b} xIn m c

/-- The copy of half `b` of block `j` of `x` to its slot, under way. -/
def xFly (b : Bool) (c : Dev nD) (j : Fin 8) : sProp 𝕄 :=
  iprop(Transfers.Flight EC (c : Thread nD τ) (.dma (xD b)) 0 NX
      iprop(ownF c (xsq b) (xblk m b c j) ∗ owns (c : Thread nD τ) (A0.slice (xR b j) (fun _ => rfl)) (shr b) (xblk m b c j))
    ∗ (A0.view.loc (c : Thread nD τ) ↦[A0.view.set \ (A0.view.slice (xR b j)).set]{shr b} xIn m c))

section Copies
variable {α : Type} {Q : Post F α} {k : PUnit → Prog (TpuEff nD τ sig (Elt F) Λ₀ .tc) α} (c : Dev nD)

/-- The start of the copy of half `b` of block `j` of `x` to its slot. -/
theorem wp_xcopy (b : Bool) (j : Fin 8) {off : Fin 2 → ℕ} (hoff : off = ![row0 b j, 0]) {hin : ∀ a, off a + S512x1024.size a ≤ S8192x1024.size a}
    {B : Memref sig .tc .vmem S512x1024 .f32} (hB : B = xsq b) {sm : SemLoc sig} (hs : sm = .dma (xD b))
    {hr : ∀ a, (Rect.unit (s := S8192x1024) off S512x1024.size hin).stride a = 1}
    {hsrc : (A0.slice (Rect.unit (s := S8192x1024) off S512x1024.size hin) hr).view.WordExact} {hdst : B.view.WordExact}
    {hsem : DmaTarget.Typed (nD := nD) (τ := τ) (p := .tc) .hbm sm (.here B)} :
    iprop(xHold m b c ∗ ownE (F := F) c (xsl b) ∗ semVal ((c : Thread nD τ), .dma (xD b)) 0)
      ⊢ iprop((xFly m b c j -∗ WP c (k ⟨⟩) Q)
          -∗ WP c (.op (.enqueueDma (A0.slice (Rect.unit (s := S8192x1024) off S512x1024.size hin) hr) (.here B) sm hsrc hdst hsem) k) Q) := by
  subst hoff hB hs
  unfold xHold
  iintro ⟨HA, ⟨%Y, HB⟩, Hv⟩ Hk
  ihave HA := (carve c A0 (xR b j) (fun _ => rfl) (shr b) (xIn m c)).1 $$ HA
  icases HA with ⟨HA, Hrest⟩
  iapply (wp_copy c (shr b) (xblk m b c j) NX (by cases b <;> rfl) NX_pos) $$ [HA HB Hv]
  · isplitl [HA]; · iexact HA
    isplitl [HB]
    · iexists _; iapply (owns_squeeze c (xsl b) squeezes_S1x512x1024_S512x1024 shapeCasts_S1x512x1024_S512x1024 fullShare Y); iexact HB
    iexact Hv
  iintro HF
  iapply Hk
  unfold xFly
  isplitl [HF]; · iexact HF
  iexact Hrest

/-- The wait for it. -/
theorem wp_xwait (b : Bool) (j : Fin 8) {sem : DmaSem sig} (hs : sem = xD b) {sp' : Space} {s' : Shape} {e' : EltTy}
    {srcw : Memref sig .tc sp' s' e'} {dstw : Memref sig .tc .vmem S512x1024 .f32} (hd : dstw.view.dmaCredit = NX)
    {hsrc : srcw.view.WordExact} {hdst : dstw.view.WordExact} (O : CellTallies nD τ sig ℕ) (hO : Above 1 O) :
    iprop(levAts L lv ∗ ow c O ∗ xFly m b c j)
      ⊢ iprop(((ow c O ∗ xHold m b c ∗ ownF c (xsl b) (xblk1 m b c j) ∗ semVal ((c : Thread nD τ), .dma (xD b)) 0) -∗ WP c (k ⟨⟩) Q)
          -∗ WP c (.op (.waitDma2 sem srcw dstw hsrc hdst) k) Q) := by
  subst hs
  unfold xFly
  iintro ⟨#Hl, HO, HF, Hrest⟩ Hk
  iapply (wp_copy_wait c hd O hO) $$ [HF HO]
  · isplitr; · iexact Hl
    isplitl [HF] <;> iassumption
  iintro ⟨⟨HB, HA⟩, Hv, HO⟩
  iapply Hk
  isplitl [HO]; · iexact HO
  isplitl [HA Hrest]
  · unfold xHold
    iapply (carve c A0 (xR b j) (fun _ => rfl) (shr b) (xIn m c)).2
    isplitl [HA]; · iexact HA
    iexact Hrest
  isplitl [HB]
  · iapply (owns_unsqueeze c (xsl b) squeezes_S1x512x1024_S512x1024 shapeCasts_S512x1024_S1x512x1024 fullShare (xblk m b c j)); iexact HB
  iexact Hv

end Copies

/-! ## The weight -/

/-- The `i`-th quarter of the weight. -/
def wblk (c : Dev nD) (i : Fin 4) : Vec F S256x4096 .f32 := fun j => wIn m c ((wR i).emb j)

/-- What one quarter of the weight adds to its semaphore. -/
def NW : ℕ := A4.view.dmaCredit
theorem NW_pos : 0 < NW := by decide +kernel

/-- The weight. -/
def wHold (c : Dev nD) : sProp 𝕄 := A1.view.loc (c : Thread nD τ) ↦[A1.view.set]{fullShare} wIn m c

/-- The copy of the `i`-th quarter, under way. -/
def wFly (c : Dev nD) (i : Fin 4) : sProp 𝕄 :=
  iprop(Transfers.Flight EC (c : Thread nD τ) (.dma wD) 0 NW
      iprop(ownF c A4 (wblk m c i) ∗ ownF c (A1.slice (wR i) (fun _ => rfl)) (wblk m c i))
    ∗ (A1.view.loc (c : Thread nD τ) ↦[A1.view.set \ (A1.view.slice (wR i)).set]{fullShare} wIn m c))

/-- The `i`-th quarter of the rounded weight's buffer. -/
abbrev wbs (i : Fin 4) : Memref sig .tc .vmem S256x4096 .bf16 := A3.slice (wR i) (fun _ => rfl)

section Weight
variable {α : Type} {Q : Post F α} {k : PUnit → Prog (TpuEff nD τ sig (Elt F) Λ₀ .tc) α} (c : Dev nD)

/-- The start of the copy of the `i`-th quarter of the weight. -/
theorem wp_wcopy (i : Fin 4) {off : Fin 2 → ℕ} (hoff : off = ![256 * i.val, 0]) {hin : ∀ a, off a + S256x4096.size a ≤ S1024x4096.size a}
    {sm : SemLoc sig} (hs : sm = .dma wD)
    {hr : ∀ a, (Rect.unit (s := S1024x4096) off S256x4096.size hin).stride a = 1}
    {hsrc : (A1.slice (Rect.unit (s := S1024x4096) off S256x4096.size hin) hr).view.WordExact} {hdst : A4.view.WordExact}
    {hsem : DmaTarget.Typed (nD := nD) (τ := τ) (p := .tc) .hbm sm (.here A4)} :
    iprop(wHold m c ∗ ownE (F := F) c A4 ∗ semVal ((c : Thread nD τ), .dma wD) 0)
      ⊢ iprop((wFly m c i -∗ WP c (k ⟨⟩) Q)
          -∗ WP c (.op (.enqueueDma (A1.slice (Rect.unit (s := S1024x4096) off S256x4096.size hin) hr) (.here A4) sm hsrc hdst hsem) k) Q) := by
  subst hoff hs
  unfold wHold
  iintro ⟨HA, HB, Hv⟩ Hk
  ihave HA := (carve c A1 (wR i) (fun _ => rfl) fullShare (wIn m c)).1 $$ HA
  icases HA with ⟨HA, Hrest⟩
  iapply (wp_copy c fullShare (wblk m c i) NW rfl NW_pos) $$ [HA HB Hv]
  · isplitl [HA]; · iexact HA
    isplitl [HB] <;> iassumption
  iintro HF
  iapply Hk
  unfold wFly
  isplitl [HF] <;> iassumption

/-- The wait for it. -/
theorem wp_wwait (i : Fin 4) {sem : DmaSem sig} (hs : sem = wD) {sp' : Space} {s' : Shape} {e' : EltTy}
    {srcw : Memref sig .tc sp' s' e'} {dstw : Memref sig .tc .vmem S256x4096 .f32} (hd : dstw.view.dmaCredit = NW)
    {hsrc : srcw.view.WordExact} {hdst : dstw.view.WordExact} (O : CellTallies nD τ sig ℕ) (hO : Above 1 O) :
    iprop(levAts L lv ∗ ow c O ∗ wFly m c i)
      ⊢ iprop(((ow c O ∗ wHold m c ∗ ownF c A4 (wblk m c i) ∗ semVal ((c : Thread nD τ), .dma wD) 0) -∗ WP c (k ⟨⟩) Q)
          -∗ WP c (.op (.waitDma2 sem srcw dstw hsrc hdst) k) Q) := by
  subst hs
  unfold wFly
  iintro ⟨#Hl, HO, HF, Hrest⟩ Hk
  iapply (wp_copy_wait c hd O hO) $$ [HF HO]
  · isplitr; · iexact Hl
    isplitl [HF] <;> iassumption
  iintro ⟨⟨HB, HA⟩, Hv, HO⟩
  iapply Hk
  isplitl [HO]; · iexact HO
  isplitl [HA Hrest]
  · unfold wHold
    iapply (carve c A1 (wR i) (fun _ => rfl) fullShare (wIn m c)).2
    isplitl [HA]; · iexact HA
    iexact Hrest
  isplitl [HB] <;> iassumption

end Weight

/-! ## The accumulator -/

/-- What one half block adds to the semaphore of its direction's copies to the result. -/
def NO : ℕ := (A2.slice (oR false 0) (fun _ => rfl)).view.dmaCredit
theorem NO_pos : 0 < NO := by decide +kernel

/-- The `n`-th block that direction `b` writes to the result. -/
abbrev jn (b : Bool) (c : Dev nD) (n : ℕ) : Fin 8 := ch b c (6 + n)

/-- Its rows of the result. -/
abbrev osl (b : Bool) (c : Dev nD) (n : ℕ) : Memref sig .tc .hbm S512x4096 .f32 := A2.slice (oR b (jn b c n)) (fun _ => rfl)

/-- The copy of the `n`-th half block to the result, under way. -/
def oFly (b : Bool) (c : Dev nD) (n : ℕ) : sProp 𝕄 :=
  Transfers.Flight EC (c : Thread nD τ) (.dma (outD b)) 0 NO iprop(ownF c (osl b c n) (val m b c n) ∗ ownF c (acc b) (val m b c n))

section Out
variable {α : Type} {Q : Post F α} {k : PUnit → Prog (TpuEff nD τ sig (Elt F) Λ₀ .tc) α} (c : Dev nD)

/-- The start of the copy of the `n`-th half block to the result. -/
theorem wp_ocopy (b : Bool) (n : ℕ) {off : Fin 2 → ℕ} (hoff : off = ![row0 b (jn b c n), 0])
    {hin : ∀ a, off a + S512x4096.size a ≤ S8192x4096.size a}
    {src : Memref sig .tc .vmem S512x4096 .f32} (hS : src = acc b) {sm : SemLoc sig} (hs : sm = .dma (outD b))
    {hr : ∀ a, (Rect.unit (s := S8192x4096) off S512x4096.size hin).stride a = 1}
    {hsrc : src.view.WordExact} {hdst : (A2.slice (Rect.unit (s := S8192x4096) off S512x4096.size hin) hr).view.WordExact}
    {hsem : DmaTarget.Typed (nD := nD) (τ := τ) (p := .tc) .vmem sm (.here (A2.slice (Rect.unit (s := S8192x4096) off S512x4096.size hin) hr))} :
    iprop(ownF c (acc b) (val m b c n) ∗ ownE (F := F) c (osl b c n) ∗ semVal ((c : Thread nD τ), .dma (outD b)) 0)
      ⊢ iprop((oFly m b c n -∗ WP c (k ⟨⟩) Q)
          -∗ WP c (.op (.enqueueDma src (.here (A2.slice (Rect.unit (s := S8192x4096) off S512x4096.size hin) hr)) sm hsrc hdst hsem) k) Q) := by
  subst hoff hS hs
  iintro ⟨HA, HB, Hv⟩ Hk
  iapply (wp_copy c fullShare (val m b c n) NO (by cases b <;> rfl) NO_pos) $$ [HA HB Hv]
  · isplitl [HA]; · iexact HA
    isplitl [HB]; · iexact HB
    iexact Hv
  iintro HF
  iapply Hk
  unfold oFly
  iexact HF

/-- The wait for it. -/
theorem wp_owait (b : Bool) (n : ℕ) {sem : DmaSem sig} (hs : sem = outD b) {sp' : Space} {s' : Shape} {e' : EltTy}
    {srcw : Memref sig .tc sp' s' e'} {dstw : Memref sig .tc .hbm S512x4096 .f32} (hd : dstw.view.dmaCredit = NO)
    {hsrc : srcw.view.WordExact} {hdst : dstw.view.WordExact} (O : CellTallies nD τ sig ℕ) (hO : Above 1 O) :
    iprop(levAts L lv ∗ ow c O ∗ oFly m b c n)
      ⊢ iprop(((ow c O ∗ ownF c (osl b c n) (val m b c n) ∗ ownF c (acc b) (val m b c n) ∗ semVal ((c : Thread nD τ), .dma (outD b)) 0) -∗ WP c (k ⟨⟩) Q)
          -∗ WP c (.op (.waitDma2 sem srcw dstw hsrc hdst) k) Q) := by
  subst hs
  unfold oFly
  iintro ⟨#Hl, HO, HF⟩ Hk
  iapply (wp_copy_wait c hd O hO) $$ [HF HO]
  · isplitr; · iexact Hl
    isplitl [HF] <;> iassumption
  iintro ⟨⟨HB, HA⟩, Hv, HO⟩
  iapply Hk
  isplitl [HO]; · iexact HO
  isplitl [HB]; · iexact HB
  isplitl [HA] <;> iassumption

end Out

end Cert.Rings

end

end
-- ==== Proof.Slices.lean ====
module

public import proofs.«01_k».proof.Proof.Local
public import Idealize.ShloMosaic.Lib.Pipeline.Value

/-! # Buffers in slices, and the result in the order it is written

Each scratch buffer used by halves, slots or quarters is split into them and put together again. Then
the result: which of its elements are written after `n` of the eight blocks, and how the two half
blocks written next are taken out of it and put back. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

instance elt_nonempty : ∀ e, Nonempty (Elt F e) := fun e => by
  cases e
  case i1 => exact ⟨(0 : BitVec 1)⟩
  case i4 => exact ⟨(0 : BitVec 4)⟩
  case i8 => exact ⟨(0 : BitVec 8)⟩
  case i16 => exact ⟨(0 : BitVec 16)⟩
  case i32 => exact ⟨(0 : BitVec 32)⟩
  case i64 => exact ⟨(0 : BitVec 64)⟩
  all_goals exact ⟨FloatOps.ofBits _ 0⟩

/-! ## Halves and quarters -/

theorem sep_two (f : Bool → sProp 𝕄) : bigSep Finset.univ f = iprop(f false ∗ f true) := by
  rw [bigSep_univ_eq_bigSepL [false, true] (by decide) (by decide), bigSepL_cons_cons, bigSepL_singleton]; rfl
theorem sep_four (f : Fin 4 → sProp 𝕄) : bigSep Finset.univ f = iprop(f 0 ∗ f 1 ∗ f 2 ∗ f 3) := by
  rw [bigSep_univ_eq_bigSepL [0, 1, 2, 3] (by decide) (by decide), bigSepL_cons_cons, bigSepL_cons_cons, bigSepL_cons_cons, bigSepL_singleton]; rfl

section Halves
variable (c : Dev nD) {sp : Space} {sh : Shape} {e : EltTy} (M : Memref sig .tc sp sh e)
  (r : Bool → Rect sh) (hr : ∀ t a, (r t).stride a = 1)
  (hd : ∀ t t', t ≠ t' → Disjoint (r t).set (r t').set)
  (hcov : (Finset.univ : Finset Bool).biUnion (fun t => (r t).set) = Finset.univ)
include hd hcov

/-- A buffer is its two halves. -/
theorem halve : (ownE (F := F) c M : sProp 𝕄)
    ⊢ iprop(ownE (F := F) c (M.slice (r false) (hr false)) ∗ ownE (F := F) c (M.slice (r true) (hr true))) := by
  iintro ⟨%X, H⟩
  ihave H := (owns_rects (c : Thread nD τ) M fullShare r hr hd hcov X) $$ H
  ihave H := (Entails.of_eq (sep_two _)) $$ H
  icases H with ⟨H0, H1⟩
  isplitl [H0]
  · iexists _; iexact H0
  · iexists _; iexact H1

/-- The two halves are the buffer. -/
theorem unhalve : iprop(ownE (F := F) c (M.slice (r false) (hr false)) ∗ ownE (F := F) c (M.slice (r true) (hr true)))
    ⊢ (ownE (F := F) c M : sProp 𝕄) := by
  iintro ⟨⟨%X, HX⟩, ⟨%Y, HY⟩⟩
  ihave HX := (show ownF c (M.slice (r false) (hr false)) X ⊢ (iprop(∃ f, ⌜(M.view.slice (r false)).read (Elt F) f = X⌝
      ∗ (M.view.loc (c : Thread nD τ) ↦[(M.view.slice (r false)).set]{fullShare} f)) : sProp 𝕄) from .rfl) $$ HX
  ihave HY := (show ownF c (M.slice (r true) (hr true)) Y ⊢ (iprop(∃ f, ⌜(M.view.slice (r true)).read (Elt F) f = Y⌝
      ∗ (M.view.loc (c : Thread nD τ) ↦[(M.view.slice (r true)).set]{fullShare} f)) : sProp 𝕄) from .rfl) $$ HY
  icases HX with ⟨%f, -, HX⟩
  icases HY with ⟨%g, -, HY⟩
  have hdis : Disjoint (M.view.slice (r false)).set (M.view.slice (r true)).set := by
    rw [View.set_slice, View.set_slice]; exact (Finset.disjoint_map _).mpr (hd _ _ (by decide))
  have hset : (M.view.slice (r false)).set ∪ (M.view.slice (r true)).set = M.view.set := by
    apply Finset.Subset.antisymm
    · exact Finset.union_subset (View.set_slice_subset _ _) (View.set_slice_subset _ _)
    · intro i hi
      rw [View.set, Finset.mem_map] at hi
      obtain ⟨x, -, rfl⟩ := hi
      obtain ⟨t, -, hx⟩ := Finset.mem_biUnion.mp (hcov.symm ▸ Finset.mem_univ x)
      have : M.view.emb x ∈ (M.view.slice (r t)).set := by rw [View.set_slice]; exact Finset.mem_map_of_mem _ hx
      cases t
      · exact Finset.mem_union_left _ this
      · exact Finset.mem_union_right _ this
  ihave H := (pointsTo_join (ℓ := M.view.loc (c : Thread nD τ)) hdis) $$ [HX HY]
  · isplitl [HX]; · iexact HX
    iexact HY
  iexists _
  iapply (owns_intro (c : Thread nD τ) M fullShare)
  rw [← hset]
  iexact H

end Halves

theorem sl_disj (t t' : Bool) (h : t ≠ t') : Disjoint (slR t).set (slR t').set :=
  Rect.unit_disjoint 0 (by revert t t'; decide)
theorem sl_cov : (Finset.univ : Finset Bool).biUnion (fun t => (slR t).set) = Finset.univ := by
  ext i
  simp only [Finset.mem_biUnion, Finset.mem_univ, true_and, iff_true]
  have h0 : (i 0).val < 2 := (i 0).isLt
  have h1 : (i 1).val < 512 := (i 1).isLt
  have h2 : (i 2).val < 1024 := (i 2).isLt
  refine ⟨decide (1 ≤ (i 0).val), Rect.mem_set_unit.mpr fun a => ?_⟩
  rcases Nat.lt_or_ge (i 0).val 1 with h | h
  · rw [decide_eq_false (by omega)]
    fin_cases a
    · show 0 ≤ (i 0).val ∧ (i 0).val < 0 + 1; omega
    · show 0 ≤ (i 1).val ∧ (i 1).val < 0 + 512; omega
    · show 0 ≤ (i 2).val ∧ (i 2).val < 0 + 1024; omega
  · rw [decide_eq_true h]
    fin_cases a
    · show 1 ≤ (i 0).val ∧ (i 0).val < 1 + 1; omega
    · show 0 ≤ (i 1).val ∧ (i 1).val < 0 + 512; omega
    · show 0 ≤ (i 2).val ∧ (i 2).val < 0 + 1024; omega

theorem a_disj (t t' : Bool) (h : t ≠ t') : Disjoint (aR t).set (aR t').set :=
  Rect.unit_disjoint 0 (by revert t t'; decide)
theorem a_cov : (Finset.univ : Finset Bool).biUnion (fun t => (aR t).set) = Finset.univ := by
  ext i
  simp only [Finset.mem_biUnion, Finset.mem_univ, true_and, iff_true]
  have h0 : (i 0).val < 1024 := (i 0).isLt
  have h1 : (i 1).val < 4096 := (i 1).isLt
  refine ⟨decide (512 ≤ (i 0).val), Rect.mem_set_unit.mpr fun a => ?_⟩
  rcases Nat.lt_or_ge (i 0).val 512 with h | h
  · rw [decide_eq_false (by omega)]
    fin_cases a
    · show 0 ≤ (i 0).val ∧ (i 0).val < 0 + 512; omega
    · show 0 ≤ (i 1).val ∧ (i 1).val < 0 + 4096; omega
  · rw [decide_eq_true h]
    fin_cases a
    · show 512 ≤ (i 0).val ∧ (i 0).val < 512 + 512; omega
    · show 0 ≤ (i 1).val ∧ (i 1).val < 0 + 4096; omega

theorem w_disj (t t' : Fin 4) (h : t ≠ t') : Disjoint (wR t).set (wR t').set :=
  Rect.unit_disjoint 0 (by revert t t'; decide)
theorem w_cov : (Finset.univ : Finset (Fin 4)).biUnion (fun t => (wR t).set) = Finset.univ := by
  ext i
  simp only [Finset.mem_biUnion, Finset.mem_univ, true_and, iff_true]
  have h0 : (i 0).val < 1024 := (i 0).isLt
  have h1 : (i 1).val < 4096 := (i 1).isLt
  refine ⟨⟨(i 0).val / 256, by omega⟩, Rect.mem_set_unit.mpr fun a => ?_⟩
  fin_cases a
  · show 256 * ((i 0).val / 256) ≤ (i 0).val ∧ (i 0).val < 256 * ((i 0).val / 256) + 256; omega
  · show 0 ≤ (i 1).val ∧ (i 1).val < 0 + 4096; omega

/-- The staging buffer of `x` and its slots. -/
theorem xs_split (c : Dev nD) : (ownE (F := F) c A5 : sProp 𝕄) ⊢ iprop(ownE (F := F) c (xsl false) ∗ ownE (F := F) c (xsl true)) :=
  halve c A5 slR (fun _ _ => rfl) sl_disj sl_cov
theorem xs_join (c : Dev nD) : iprop(ownE (F := F) c (xsl false) ∗ ownE (F := F) c (xsl true)) ⊢ (ownE (F := F) c A5 : sProp 𝕄) :=
  unhalve c A5 slR (fun _ _ => rfl) sl_disj sl_cov
/-- The buffer of rounded rows and its slots. -/
theorem xb_split (c : Dev nD) : (ownE (F := F) c A6 : sProp 𝕄) ⊢ iprop(ownE (F := F) c (xbs false) ∗ ownE (F := F) c (xbs true)) :=
  halve c A6 slR (fun _ _ => rfl) sl_disj sl_cov
theorem xb_join (c : Dev nD) : iprop(ownE (F := F) c (xbs false) ∗ ownE (F := F) c (xbs true)) ⊢ (ownE (F := F) c A6 : sProp 𝕄) :=
  unhalve c A6 slR (fun _ _ => rfl) sl_disj sl_cov
/-- The accumulator and its halves. -/
theorem acc_split (c : Dev nD) : (ownE (F := F) c A7 : sProp 𝕄) ⊢ iprop(ownE (F := F) c (acc false) ∗ ownE (F := F) c (acc true)) :=
  halve c A7 aR (fun _ _ => rfl) a_disj a_cov
theorem acc_join (c : Dev nD) : iprop(ownE (F := F) c (acc false) ∗ ownE (F := F) c (acc true)) ⊢ (ownE (F := F) c A7 : sProp 𝕄) :=
  unhalve c A7 aR (fun _ _ => rfl) a_disj a_cov

/-- The buffer of the rounded weight is its four quarters. -/
theorem wb_split (c : Dev nD) : (ownE (F := F) c A3 : sProp 𝕄)
    ⊢ iprop(ownE (F := F) c (wbs 0) ∗ ownE (F := F) c (wbs 1) ∗ ownE (F := F) c (wbs 2) ∗ ownE (F := F) c (wbs 3)) := by
  iintro ⟨%X, H⟩
  ihave H := (owns_rects (c : Thread nD τ) A3 fullShare wR (fun _ _ => rfl) w_disj w_cov X) $$ H
  ihave H := (Entails.of_eq (sep_four _)) $$ H
  icases H with ⟨H0, H1, H2, H3⟩
  isplitl [H0]; · iexists _; iexact H0
  isplitl [H1]; · iexists _; iexact H1
  isplitl [H2]; · iexists _; iexact H2
  iexists _; iexact H3

/-- A quarter of the weight, rounded, is that quarter of the rounded weight. -/
theorem pay_w (c : Dev nD) (i : Fin 4) : k0_pay15 (wblk m c i) = fun j => wbf m c ((wR i).emb j) := by
  exact shapeCast_self _ _

/-- Four rounded quarters are the rounded weight. -/
theorem wb_join (c : Dev nD) : iprop(ownF c (wbs 0) (k0_pay15 (wblk m c 0)) ∗ ownF c (wbs 1) (k0_pay15 (wblk m c 1))
      ∗ ownF c (wbs 2) (k0_pay15 (wblk m c 2)) ∗ ownF c (wbs 3) (k0_pay15 (wblk m c 3)))
    ⊢ (ownF c A3 (wbf m c) : sProp 𝕄) := by
  refine BIBase.Entails.trans ?_ (owns_of_rects (c : Thread nD τ) A3 fullShare wR (fun _ _ => rfl) w_disj w_cov (wbf m c))
  rw [sep_four, pay_w, pay_w, pay_w, pay_w]

/-! ## The result -/

/-- The half that an element of the result belongs to. -/
def hb (i : S8192x4096.Idx) : Bool := decide (512 ≤ (i 0).val % 1024)
/-- The place of an element's half block in the order in which device `c` writes its half. -/
def fl (c : Dev nD) (i : S8192x4096.Idx) : ℕ :=
  if (i 0).val % 1024 < 512 then (c.val + 9 - (i 0).val / 1024) % 8 else ((i 0).val / 1024 + 9 - c.val) % 8

/-- An element's place in its half block. -/
def hp (i : S8192x4096.Idx) : S512x4096.Idx := fun a =>
  match a with
  | ⟨0, _⟩ => ⟨(i 0).val % 512, Nat.mod_lt _ (by decide)⟩
  | ⟨1, _⟩ => ⟨(i 1).val, (i 1).isLt⟩

/-- The result of device `c`. -/
def resultOf (c : Dev nD) : S8192x4096.Idx → Elt F .f32 := fun i => val m (hb i) c (fl c i) (hp i)

/-- The elements written after the first `n` blocks. -/
def doneSet (c : Dev nD) (n : ℕ) : Finset S8192x4096.Idx := Finset.univ.filter fun i => fl c i < n

theorem mem_osl (b : Bool) (c : Dev nD) (n : ℕ) (hn : n < 8) (i : S8192x4096.Idx) :
    i ∈ (A2.view.slice (oR b (jn b c n))).set ↔ hb i = b ∧ fl c i = n := by
  have hset : (A2.view.slice (oR b (jn b c n))).set = (oR b (jn b c n)).set := by
    rw [View.set_slice]; ext j
    simp only [Finset.mem_map]
    constructor
    · rintro ⟨x, hx, rfl⟩; exact hx
    · intro hx; exact ⟨j, hx, rfl⟩
  rw [hset]
  unfold oR
  rw [Rect.mem_set_unit]
  have h0 : (i 0).val < 8192 := (i 0).isLt
  have h1 : (i 1).val < 4096 := (i 1).isLt
  have hc : c.val < 8 := c.isLt
  have key : (∀ a, (![row0 b (jn b c n), 0] : Fin 2 → ℕ) a ≤ (i a).val ∧ (i a).val < (![row0 b (jn b c n), 0] : Fin 2 → ℕ) a + S512x4096.size a)
      ↔ (row0 b (jn b c n) ≤ (i 0).val ∧ (i 0).val < row0 b (jn b c n) + 512) := by
    constructor
    · intro h; exact h 0
    · intro h a
      fin_cases a
      · exact h
      · show 0 ≤ (i 1).val ∧ (i 1).val < 0 + 4096; omega
  refine Iff.trans key ?_
  unfold hb fl
  generalize (i 0).val = x at *
  cases b
  · show 1024 * ((c.val + 15 - (6 + n)) % 8) ≤ x ∧ x < 1024 * ((c.val + 15 - (6 + n)) % 8) + 512 ↔ _
    rw [decide_eq_false_iff_not]
    constructor
    · intro h
      refine ⟨by omega, ?_⟩
      rw [if_pos (by omega)]; omega
    · rintro ⟨h, h'⟩
      rw [if_pos (by omega)] at h'; omega
  · show 1024 * ((c.val + (6 + n) + 1) % 8) + 512 ≤ x ∧ x < 1024 * ((c.val + (6 + n) + 1) % 8) + 512 + 512 ↔ _
    rw [decide_eq_true_iff]
    constructor
    · intro h
      refine ⟨by omega, ?_⟩
      rw [if_neg (by omega)]; omega
    · rintro ⟨h, h'⟩
      rw [if_neg (by omega)] at h'; omega

/-- On the rows of the `n`-th half block the result is that half block. -/
theorem result_osl (b : Bool) (c : Dev nD) (n : ℕ) (hn : n < 8) (j : S512x4096.Idx) :
    resultOf m c ((oR b (jn b c n)).emb j) = val m b c n j := by
  have hm : (oR b (jn b c n)).emb j ∈ (A2.view.slice (oR b (jn b c n))).set := by
    rw [View.set_slice]
    have h := Finset.mem_map_of_mem A2.view.emb ((oR b (jn b c n)).map_emb_univ ▸ Finset.mem_map_of_mem (oR b (jn b c n)).emb (Finset.mem_univ j))
    exact h
  obtain ⟨h1, h2⟩ := (mem_osl b c n hn _).mp hm
  unfold resultOf
  rw [h1, h2]
  congr 1
  funext a
  apply Fin.ext
  have h0 : (j 0).val < 512 := (j 0).isLt
  have e0 : ((oR b (jn b c n)).emb j 0).val = row0 b (jn b c n) + (j 0).val := by
    rw [Rect.emb_apply]; show row0 b (jn b c n) + 1 * (j 0).val = _; omega
  have e1 : ((oR b (jn b c n)).emb j 1).val = (j 1).val := by
    rw [Rect.emb_apply]; show 0 + 1 * (j 1).val = _; omega
  fin_cases a
  · show ((oR b (jn b c n)).emb j 0).val % 512 = (j 0).val
    rw [e0]
    cases b
    · show (1024 * _ + _) % 512 = _; omega
    · show (1024 * _ + 512 + _) % 512 = _; omega
  · exact e1

/-- The result with the first `n` blocks written. -/
def outHold (c : Dev nD) (n : ℕ) : sProp 𝕄 :=
  iprop((A2.view.loc (c : Thread nD τ) ↦[doneSet c n]{fullShare} resultOf m c)
    ∗ ∃ f : Buf (Elt F) (A2.view.loc (c : Thread nD τ)), A2.view.loc (c : Thread nD τ) ↦[Finset.univ \ doneSet c n]{fullShare} f)
/-- The same without the rows of the next block. -/
def outRest (c : Dev nD) (n : ℕ) : sProp 𝕄 :=
  iprop((A2.view.loc (c : Thread nD τ) ↦[doneSet c n]{fullShare} resultOf m c)
    ∗ ∃ f : Buf (Elt F) (A2.view.loc (c : Thread nD τ)), A2.view.loc (c : Thread nD τ) ↦[Finset.univ \ doneSet c (n + 1)]{fullShare} f)

theorem osl_disj (c : Dev nD) (n : ℕ) (hn : n < 8) :
    Disjoint (A2.view.slice (oR false (jn false c n))).set (A2.view.slice (oR true (jn true c n))).set :=
  Finset.disjoint_left.mpr fun i h h' => by
    have a := ((mem_osl false c n hn i).mp h).1
    have b := ((mem_osl true c n hn i).mp h').1
    rw [a] at b; exact absurd b (by decide)

theorem done_succ (c : Dev nD) (n : ℕ) (hn : n < 8) :
    doneSet c (n + 1) = doneSet c n ∪ ((A2.view.slice (oR false (jn false c n))).set ∪ (A2.view.slice (oR true (jn true c n))).set) := by
  ext i
  rw [Finset.mem_union, Finset.mem_union, mem_osl false c n hn, mem_osl true c n hn, doneSet, doneSet, Finset.mem_filter, Finset.mem_filter]
  have : hb i = false ∨ hb i = true := by cases hb i <;> simp
  simp only [Finset.mem_univ, true_and]
  constructor
  · intro h
    rcases Nat.lt_or_ge (fl c i) n with h' | h'
    · exact Or.inl h'
    · have : fl c i = n := by omega
      rcases ‹hb i = false ∨ hb i = true› with e | e
      · exact Or.inr (Or.inl ⟨e, this⟩)
      · exact Or.inr (Or.inr ⟨e, this⟩)
  · rintro (h | ⟨_, h⟩ | ⟨_, h⟩) <;> omega

theorem done_disj (c : Dev nD) (n : ℕ) (hn : n < 8) :
    Disjoint (doneSet c n) ((A2.view.slice (oR false (jn false c n))).set ∪ (A2.view.slice (oR true (jn true c n))).set) :=
  Finset.disjoint_left.mpr fun i h h' => by
    rw [Finset.mem_union, mem_osl false c n hn, mem_osl true c n hn] at h'
    rw [doneSet, Finset.mem_filter] at h
    rcases h' with ⟨_, h'⟩ | ⟨_, h'⟩ <;> omega

theorem fl_lt (c : Dev nD) (i : S8192x4096.Idx) : fl c i < 8 := by
  unfold fl; split <;> omega

theorem sdiff_take {α : Type} [Fintype α] [DecidableEq α] {D S : Finset α} (h : Disjoint D S) :
    Finset.univ \ D = S ∪ (Finset.univ \ (D ∪ S)) := by
  ext i
  have h1 := fun hi : i ∈ D => Finset.disjoint_left.mp h hi
  rw [Finset.mem_union, Finset.mem_sdiff, Finset.mem_sdiff, Finset.mem_union]
  have h2 := Finset.mem_univ i
  tauto

/-- Taking out the rows of block `n`. -/
theorem out_take (c : Dev nD) (n : ℕ) (hn : n < 8) :
    (outHold m c n : sProp 𝕄) ⊢ iprop(ownE (F := F) c (osl false c n) ∗ ownE (F := F) c (osl true c n) ∗ outRest m c n) := by
  unfold outHold outRest
  iintro ⟨HT, ⟨%f, Hf⟩⟩
  have hs : Finset.univ \ doneSet c n = ((A2.view.slice (oR false (jn false c n))).set ∪ (A2.view.slice (oR true (jn true c n))).set)
      ∪ (Finset.univ \ doneSet c (n + 1)) := by
    rw [done_succ c n hn]; exact sdiff_take (done_disj c n hn)
  have hd : Disjoint ((A2.view.slice (oR false (jn false c n))).set ∪ (A2.view.slice (oR true (jn true c n))).set) (Finset.univ \ doneSet c (n + 1)) := by
    rw [done_succ c n hn]
    refine Finset.disjoint_left.mpr fun i h h' => ?_
    exact (Finset.mem_sdiff.mp h').2 (Finset.mem_union_right _ h)
  ihave Hf := (show (A2.view.loc (c : Thread nD τ) ↦[Finset.univ \ doneSet c n]{fullShare} f : sProp 𝕄)
      ⊢ iprop(((A2.view.loc (c : Thread nD τ) ↦[(A2.view.slice (oR false (jn false c n))).set]{fullShare} f)
          ∗ (A2.view.loc (c : Thread nD τ) ↦[(A2.view.slice (oR true (jn true c n))).set]{fullShare} f))
        ∗ (A2.view.loc (c : Thread nD τ) ↦[Finset.univ \ doneSet c (n + 1)]{fullShare} f)) from by
      rw [hs]
      exact (pointsTo_union hd).1.trans (sep_mono_left (pointsTo_union (osl_disj c n hn)).1)) $$ Hf
  icases Hf with ⟨⟨H0, H1⟩, Hf⟩
  isplitl [H0]
  · iexists _; iapply (owns_intro (c : Thread nD τ) (osl false c n) fullShare f); iexact H0
  isplitl [H1]
  · iexists _; iapply (owns_intro (c : Thread nD τ) (osl true c n) fullShare f); iexact H1
  isplitl [HT]; · iexact HT
  iexists f; iexact Hf

/-- A half block of the result is held at the result's elements. -/
theorem osl_eq (b : Bool) (c : Dev nD) (n : ℕ) (hn : n < 8) :
    (ownF c (osl b c n) (val m b c n) : sProp 𝕄)
      = (A2.view.loc (c : Thread nD τ) ↦[(A2.view.slice (oR b (jn b c n))).set]{fullShare} resultOf m c) := by
  rw [← owns_slice_read (c : Thread nD τ) A2 fullShare (oR b (jn b c n)) (fun _ => rfl) (resultOf m c)]
  congr 1
  funext j
  exact (result_osl m b c n hn j).symm

/-- Putting back the rows of block `n`, written. -/
theorem out_put (c : Dev nD) (n : ℕ) (hn : n < 8) :
    iprop(ownF c (osl false c n) (val m false c n) ∗ ownF c (osl true c n) (val m true c n) ∗ outRest m c n) ⊢ (outHold m c (n + 1) : sProp 𝕄) := by
  rw [osl_eq m false c n hn, osl_eq m true c n hn]
  unfold outHold outRest
  iintro ⟨H0, H1, HT, Hf⟩
  isplitr [Hf]
  · rw [done_succ c n hn]
    iapply (pointsTo_union (done_disj c n hn)).2
    isplitl [HT]; · iexact HT
    iapply (pointsTo_union (osl_disj c n hn)).2
    isplitl [H0] <;> iassumption
  iexact Hf

/-- Before the first block. -/
theorem out_init (c : Dev nD) : (ownE (F := F) c A2 : sProp 𝕄) ⊢ outHold m c 0 := by
  iintro ⟨%X, H⟩
  ihave H := (show ownF c A2 X ⊢ ((A2.view.loc (c : Thread nD τ) ↦{fullShare} X) : sProp 𝕄) from
    Entails.of_eq (owns_whole (c : Thread nD τ) main_v1 fullShare X)) $$ H
  unfold outHold
  have h0 : doneSet c 0 = ∅ := by unfold doneSet; simp
  rw [h0, pointsTo_empty, Finset.sdiff_empty]
  isplitr
  · iempintro
  iexists X; iexact H

/-- After the last block. -/
theorem out_done (c : Dev nD) : (outHold m c 8 : sProp 𝕄) ⊢ (A2.view.loc (c : Thread nD τ) ↦{fullShare} resultOf m c) := by
  unfold outHold
  have h0 : doneSet c 8 = Finset.univ := by
    unfold doneSet; exact Finset.filter_true_of_mem fun i _ => fl_lt c i
  rw [h0]
  iintro ⟨HT, -⟩
  iexact HT

end Cert.Rings

end

end
-- ==== Proof.Hop.lean ====
module

public import proofs.«01_k».proof.Proof.Steps

/-! # One direction of a hop

What a device holds of one direction of the ring at the five points of a hop (before the credit wait,
before the send, after it, after the departure wait, after the arrival wait), and the step from each
point to the next. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## Duties and credits still to come -/

/-- The departure duties from hop `k` on. -/
def tokS (b : Bool) (c : Dev nD) (k : ℕ) : sProp 𝕄 := bigSep (Finset.Ico k 14) fun r => dutyTok ER (sndC b c) r false
/-- The arrival duties from hop `k` on, at the device `c` sends to. -/
def tokR (b : Bool) (c : Dev nD) (k : ℕ) : sProp 𝕄 := bigSep (Finset.Ico k 14) fun r => dutyTok ER (rcvC b (dn b c)) r false
/-- The credit duties from hop `k` on, at the device `c` receives from. -/
def tokC (b : Bool) (c : Dev nD) (k : ℕ) : sProp 𝕄 := bigSep (Finset.Ico k 13) fun r => dutyTok ER (crdC b (up b c)) r false
/-- What `c` may still receive as arrivals, from hop `k` on. -/
def crR (b : Bool) (c : Dev nD) (k : ℕ) : sProp 𝕄 := cred (∑ r ∈ Finset.Ico k 14, tallyAt (rcvC b c) (2 * r + 2) NN)
/-- What `c` may still receive as credits, from hop `k` on. -/
def crC (b : Bool) (c : Dev nD) (k : ℕ) : sProp 𝕄 := cred (∑ r ∈ Finset.Ico k 13, tallyAt (crdC b c) (2 * r + 3) 1)

section Peel
variable (b : Bool) (c : Dev nD) {k : ℕ}

theorem tokS_peel (h : k < 14) : (tokS (F := F) b c k : sProp 𝕄) = iprop(dutyTok ER (sndC b c) k false ∗ tokS (F := F) b c (k + 1)) := by
  unfold tokS; rw [ico_peel h, bigSep_insert (by simp)]; rfl
theorem tokR_peel (h : k < 14) : (tokR (F := F) b c k : sProp 𝕄) = iprop(dutyTok ER (rcvC b (dn b c)) k false ∗ tokR (F := F) b c (k + 1)) := by
  unfold tokR; rw [ico_peel h, bigSep_insert (by simp)]; rfl
theorem tokC_peel (h : k < 13) : (tokC (F := F) b c k : sProp 𝕄) = iprop(dutyTok ER (crdC b (up b c)) k false ∗ tokC (F := F) b c (k + 1)) := by
  unfold tokC; rw [ico_peel h, bigSep_insert (by simp)]; rfl
theorem crR_peel (h : k < 14) : (crR (F := F) b c k : sProp 𝕄) ⊢ iprop(cred (tallyAt (rcvC b c) (2 * k + 2) NN) ∗ crR (F := F) b c (k + 1)) := by
  unfold crR; rw [ico_peel h, Finset.sum_insert (by simp)]; exact (cred_add _ _).1
theorem crC_peel (h : k < 13) : (crC (F := F) b c k : sProp 𝕄) ⊢ iprop(cred (tallyAt (crdC b c) (2 * k + 3) 1) ∗ crC (F := F) b c (k + 1)) := by
  unfold crC; rw [ico_peel h, Finset.sum_insert (by simp)]; exact (cred_add _ _).1

end Peel

/-! ## The five points of hop `k` -/

/-- Ready to send hop `k`. -/
def stA (b : Bool) (c : Dev nD) (k : ℕ) : sProp 𝕄 :=
  iprop(atPos ER (sndC b c) k ∅ 0 ∗ reached ER (sndC b c) k ∗ atPos ER (rcvC b c) k ∅ 0 ∗ atPos ER (crdC b c) k ∅ 0 ∗ reached ER (crdC b c) k
    ∗ tokS (F := F) b c k ∗ tokR (F := F) b c k ∗ tokC (F := F) b c k ∗ crR (F := F) b c k ∗ crC (F := F) b c k)
/-- Hop `k` is sent. -/
def stB (b : Bool) (c : Dev nD) (k : ℕ) : sProp 𝕄 :=
  iprop(atPos ER (sndC b c) k ∅ 0 ∗ atPos ER (rcvC b c) k ∅ 0 ∗ atPos ER (crdC b c) k ∅ 0
    ∗ tokS (F := F) b c (k + 1) ∗ tokR (F := F) b c (k + 1) ∗ tokC (F := F) b c k ∗ crR (F := F) b c k ∗ crC (F := F) b c k
    ∗ cred (tallyAt (sndC b c) 0 NN))
/-- Hop `k` has departed. -/
def stC (b : Bool) (c : Dev nD) (k : ℕ) : sProp 𝕄 :=
  iprop(atPos ER (sndC b c) (k + 1) ∅ 0 ∗ reached ER (sndC b c) (k + 1) ∗ atPos ER (rcvC b c) k ∅ 0 ∗ atPos ER (crdC b c) k ∅ 0
    ∗ tokS (F := F) b c (k + 1) ∗ tokR (F := F) b c (k + 1) ∗ tokC (F := F) b c k ∗ crR (F := F) b c k ∗ crC (F := F) b c k)
/-- Hop `k`'s message from the other side has arrived. -/
def stD (b : Bool) (c : Dev nD) (k : ℕ) : sProp 𝕄 :=
  iprop(atPos ER (sndC b c) (k + 1) ∅ 0 ∗ reached ER (sndC b c) (k + 1) ∗ atPos ER (rcvC b c) (k + 1) ∅ 0 ∗ reached ER (rcvC b c) (k + 1)
    ∗ reached ER (crdC b (up b c)) k ∗ atPos ER (crdC b c) k ∅ 0
    ∗ tokS (F := F) b c (k + 1) ∗ tokR (F := F) b c (k + 1) ∗ tokC (F := F) b c k ∗ crR (F := F) b c (k + 1) ∗ crC (F := F) b c k)
/-- The credit of hop `k` is given; the next hop waits for its own. -/
def stE (b : Bool) (c : Dev nD) (k : ℕ) : sProp 𝕄 :=
  iprop(atPos ER (sndC b c) (k + 1) ∅ 0 ∗ reached ER (sndC b c) (k + 1) ∗ atPos ER (rcvC b c) (k + 1) ∅ 0 ∗ atPos ER (crdC b c) k ∅ 0
    ∗ tokS (F := F) b c (k + 1) ∗ tokR (F := F) b c (k + 1) ∗ tokC (F := F) b c (k + 1) ∗ crR (F := F) b c (k + 1) ∗ crC (F := F) b c k)

section Hop
variable {α : Type} {Q : Post F α} {k : PUnit → Prog (TpuEff nD τ sig (Elt F) Λ₀ .tc) α} (c : Dev nD) (b : Bool) (r : ℕ)

/-- The credit wait before hop `r + 1`. -/
theorem hop_credit (hr : r < 13) {w : TpuEff nD τ sig (Elt F) Λ₀ .tc PUnit} {k' : ℕ} (hk : k' = 1)
    (hw : ∀ K : PUnit → sProp 𝕄, wpE (defs₀ (F := F)) 𝒱₀ (c : Thread nD τ) none Set.univ w K = waitSpec (c : Thread nD τ) Set.univ (crdS b) k' K)
    (O : CellTallies nD τ sig ℕ) (hO : Above (2 * r + 4) O) :
    iprop(records m ∗ levAts L lv ∗ ow c O ∗ stE (F := F) b c r)
      ⊢ iprop(((ow c O ∗ stA (F := F) b c (r + 1) ∗ slotPay (F := F) b c (r + 1)) -∗ WP c (k ⟨⟩) Q) -∗ WP c (.op w k) Q) := by
  unfold stE
  iintro ⟨#HR, #Hl, HO, Has, #Hrs, Har, Hac, HtS, HtR, HtC, HcR, HcC⟩ Hk
  ihave HcC := (crC_peel b c hr) $$ HcC
  icases HcC with ⟨Hc1, HcC⟩
  iapply (wp_crd_wait m c b r hr hk hw O hO) $$ [HO Hc1 Hac]
  · isplitr; · iexact HR
    isplitr; · iexact Hl
    isplitl [HO]; · iexact HO
    isplitl [Hc1] <;> iassumption
  iintro ⟨HO, Hac, #Hrc, Hs⟩
  iapply Hk
  isplitl [HO]; · iexact HO
  isplitr [Hs]
  · unfold stA
    isplitl [Has]; · iexact Has
    isplitr; · iexact Hrs
    isplitl [Har]; · iexact Har
    isplitl [Hac]; · iexact Hac
    isplitr; · iexact Hrc
    isplitl [HtS]; · iexact HtS
    isplitl [HtR]; · iexact HtR
    isplitl [HtC]; · iexact HtC
    isplitl [HcR] <;> iassumption
  iexact Hs

/-- The send of hop `r`. -/
theorem hop_send (hr : r < 14) (n : Dev nD) (hn : n = dn b c)
    {src dst : Memref sig .tc .vmem S512x4096 .bf16} (hs : src = srcM b r) (hd : dst = dstM b r)
    (hN : dst.view.amount (rcvS b) = NN)
    {sm sm' : SemLoc sig} (hsm : sm = sndS b) (hsm' : sm' = rcvS b)
    {hsc : (dst : Memref sig (Dev.tc n : Thread nD τ).2.kind .vmem S512x4096 .bf16).view.ref.isScScratch = false}
    {hsrc : src.view.WordExact} {hdst : dst.view.WordExact}
    {hsem : DmaTarget.Typed .vmem sm' (.remote (Dev.tc n : Thread nD τ) dst sm hsc)} (O : CellTallies nD τ sig ℕ) :
    iprop(records m ∗ ow c (O + rcvDue b c r) ∗ stA (F := F) b c r ∗ slotPay (F := F) b c r ∗ ownF c (srcM b r) (v m b r c))
      ⊢ iprop(((ow c O ∗ stB (F := F) b c r) -∗ WP c (k ⟨⟩) Q)
          -∗ WP c (.op (.enqueueDma src (.remote (Dev.tc n : Thread nD τ) dst sm hsc) sm' hsrc hdst hsem) k) Q) := by
  subst hsm hsm'
  unfold stA
  iintro ⟨#HR, HO, ⟨Has, #Hrs, Har, Hac, #Hrc, HtS, HtR, HtC, HcR, HcC⟩, Hd, Hs⟩ Hk
  ihave HtS := (Entails.of_eq (tokS_peel b c hr)) $$ HtS
  ihave HtR := (Entails.of_eq (tokR_peel b c hr)) $$ HtR
  icases HtS with ⟨Ht, HtS⟩
  icases HtR with ⟨Ht', HtR⟩
  iapply (wp_send m c b r hr n hn hs hd hN O) $$ [HO Hs Hd Ht Ht']
  · isplitr; · iexact HR
    isplitl [HO]; · iexact HO
    isplitl [Hs]; · iexact Hs
    isplitl [Hd]; · iexact Hd
    isplitr; · iexact Hrc
    isplitl [Ht]; · iexact Ht
    isplitr; · iexact Hrs
    iexact Ht'
  iintro ⟨HO, Hcr⟩
  iapply Hk
  isplitl [HO]; · iexact HO
  unfold stB
  isplitl [Has]; · iexact Has
  isplitl [Har]; · iexact Har
  isplitl [Hac]; · iexact Hac
  isplitl [HtS]; · iexact HtS
  isplitl [HtR]; · iexact HtR
  isplitl [HtC]; · iexact HtC
  isplitl [HcR]; · iexact HcR
  isplitl [HcC] <;> iassumption

/-- The departure wait of hop `r`. -/
theorem hop_depart (hr : r < 14) {sem : DmaSem sig} {srcw dstw : Memref sig .tc .vmem S512x4096 .bf16} (hs : sem = sndD b)
    (hk : dstw.view.dmaCredit = NN)
    {hsrc : srcw.view.WordExact} {hdst : dstw.view.WordExact} (O : CellTallies nD τ sig ℕ) (hO : Above 1 O) :
    iprop(records m ∗ levAts L lv ∗ ow c O ∗ stB (F := F) b c r)
      ⊢ iprop(((ow c O ∗ stC (F := F) b c r ∗ ownF c (srcM b r) (v m b r c)) -∗ WP c (k ⟨⟩) Q)
          -∗ WP c (.op (.waitDma2 sem srcw dstw hsrc hdst) k) Q) := by
  subst hs
  unfold stB
  iintro ⟨#HR, #Hl, HO, Has, Har, Hac, HtS, HtR, HtC, HcR, HcC, Hc1⟩ Hk
  iapply (wp_snd_wait m c b r hr hk (fun K => rfl) O hO) $$ [HO Hc1 Has]
  · isplitr; · iexact HR
    isplitr; · iexact Hl
    isplitl [HO]; · iexact HO
    isplitl [Hc1] <;> iassumption
  unfold sndPay
  iintro ⟨HO, Has, #Hrs, Hs⟩
  iapply Hk
  isplitl [HO]; · iexact HO
  isplitr [Hs]
  · unfold stC
    isplitl [Has]; · iexact Has
    isplitr; · iexact Hrs
    isplitl [Har]; · iexact Har
    isplitl [Hac]; · iexact Hac
    isplitl [HtS]; · iexact HtS
    isplitl [HtR]; · iexact HtR
    isplitl [HtC]; · iexact HtC
    isplitl [HcR] <;> iassumption
  iexact Hs

/-- The arrival wait of hop `r`. -/
theorem hop_arrive (hr : r < 14) {sem : DmaSem sig} {srcw dstw : Memref sig .tc .vmem S512x4096 .bf16} (hs : sem = rcvD b)
    (hk : dstw.view.dmaCredit = NN)
    {hsrc : srcw.view.WordExact} {hdst : dstw.view.WordExact} (O : CellTallies nD τ sig ℕ) (hO : Above (2 * r + 3) O) :
    iprop(records m ∗ levAts L lv ∗ ow c O ∗ stC (F := F) b c r)
      ⊢ iprop(((ow c O ∗ stD (F := F) b c r ∗ ownF c (dstM b r) (v m b r (up b c))) -∗ WP c (k ⟨⟩) Q)
          -∗ WP c (.op (.waitDma2 sem srcw dstw hsrc hdst) k) Q) := by
  subst hs
  unfold stC
  iintro ⟨#HR, #Hl, HO, Has, #Hrs, Har, Hac, HtS, HtR, HtC, HcR, HcC⟩ Hk
  ihave HcR := (crR_peel b c hr) $$ HcR
  icases HcR with ⟨Hc1, HcR⟩
  iapply (wp_rcv_wait m c b r hr hk (fun K => rfl) O hO) $$ [HO Hc1 Har]
  · isplitr; · iexact HR
    isplitr; · iexact Hl
    isplitl [HO]; · iexact HO
    isplitl [Hc1] <;> iassumption
  unfold rcvPay
  iintro ⟨HO, Har, #Hrr, Hs, #Hrc⟩
  iapply Hk
  isplitl [HO]; · iexact HO
  isplitr [Hs]
  · unfold stD
    isplitl [Has]; · iexact Has
    isplitr; · iexact Hrs
    isplitl [Har]; · iexact Har
    isplitr; · iexact Hrr
    isplitr; · iexact Hrc
    isplitl [Hac]; · iexact Hac
    isplitl [HtS]; · iexact HtS
    isplitl [HtR]; · iexact HtR
    isplitl [HtC]; · iexact HtC
    isplitl [HcR] <;> iassumption
  iexact Hs

/-- The credit signal of hop `r`: the landing buffer of the next hop goes to the device `c` receives from. -/
theorem hop_signal (hr : r < 13) (n : Dev nD) (hn : n = up b c) {s : Sem sig} (hs : s = crdD b) {k' : ℕ} (hk : k' = 1) (O : CellTallies nD τ sig ℕ) :
    iprop(records m ∗ ow c (O + crdDue b c r) ∗ stD (F := F) b c r ∗ ownE (F := F) c (dstM b (r + 1)))
      ⊢ iprop(((ow c O ∗ stE (F := F) b c r) -∗ WP c (k ⟨⟩) Q) -∗ WP c (.op (.semSignal (n : Thread nD τ) s k') k) Q) := by
  subst hs
  unfold stD
  iintro ⟨#HR, HO, ⟨Has, #Hrs, Har, #Hrr, #Hrc, Hac, HtS, HtR, HtC, HcR, HcC⟩, HB⟩ Hk
  ihave HtC := (Entails.of_eq (tokC_peel b c hr)) $$ HtC
  icases HtC with ⟨Ht, HtC⟩
  iapply (wp_crd_signal m c b r hr n hn hk O) $$ [HO Ht HB]
  · isplitr; · iexact HR
    isplitl [HO]; · iexact HO
    isplitl [Ht]; · iexact Ht
    isplitr; · iexact Hrc
    isplitl [HB]; · iexact HB
    iexact Hrr
  iintro HO
  iapply Hk
  isplitl [HO]; · iexact HO
  unfold stE
  isplitl [Has]; · iexact Has
  isplitr; · iexact Hrs
  isplitl [Har]; · iexact Har
  isplitl [Hac]; · iexact Hac
  isplitl [HtS]; · iexact HtS
  isplitl [HtR]; · iexact HtR
  isplitl [HtC]; · iexact HtC
  isplitl [HcR] <;> iassumption

end Hop

end Cert.Rings

end

end
-- ==== Proof.Prefix.lean ====
module

public import proofs.«01_k».proof.Proof.Slices
public import proofs.«01_k».proof.Proof.Hop

/-! # Before the loop

The barrier with both neighbours and the start of the first two copies of `x`; the weight's four copies
and roundings; the two staged blocks of `x`, rounded. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- Running one program after another. -/
theorem wp_seq {α β : Type} (c : Dev nD) (p : Prog (TpuEff nD τ sig (Elt F) Λ₀ .tc) α) (k : α → Prog (TpuEff nD τ sig (Elt F) Λ₀ .tc) β)
    (Q : Post F β) : WP c p (fun a => WP c (k a) Q) ⊢ WP c (p >>= k) Q :=
  Entails.of_eq (wp_bind _ _ _ p k Q).symm

/-- A program that has ended. -/
theorem wp_done {α : Type} (c : Dev nD) (a : α) (Q : Post F α) : Q a ⊢ WP c (.ret a) Q := by
  show _ ⊢ wp frame (wpE (defs₀ (F := F)) 𝒱₀ (c : Thread nD τ) none) Set.univ (.ret a) Q
  rw [wp_ret]
  iintro H
  imodintro
  iexact H

theorem zero2 : (![0, 0] : Fin 2 → ℕ) = fun _ => 0 := funext fun a => by fin_cases a <;> rfl

section Blocks
variable (c : Dev nD)

/-- A load whose value is not used. -/
theorem wp_peek {α : Type} {Q : Post F α} {sp : CoreSpace} {sh : Shape} {e : EltTy} {M : Memref sig .tc sp sh e} {r : Rect sh} (hr : ∀ a, r.stride a = 1)
    {hl : M.view.LoadsAt r.toLoadRect}
    {k : (r.shape.Idx → Elt F e) → Prog (TpuEff nD τ sig (Elt F) Λ₀ .tc) α} :
    (ownE (F := F) c (M.slice r hr) : sProp 𝕄)
      ⊢ iprop((∀ X, ownE (F := F) c (M.slice r hr) -∗ WP c (k X) Q) -∗ WP c (.op (.load M r.toLoadRect hl) k) Q) := by
  iintro ⟨%X, H⟩ Hk
  iapply (wp_load_slice c hr fullShare X) $$ H
  iintro H
  iapply Hk
  iexists X; iexact H

/-- A load of a whole memref whose value is not used. -/
theorem wp_peek_all {α : Type} {Q : Post F α} {sp : CoreSpace} {sh : Shape} {e : EltTy} {M : Memref sig .tc sp sh e} {off : Fin sh.rank → ℕ}
    (hz : off = fun _ => 0)
    {hb : ∀ a, off a + sh.size a ≤ sh.size a} {hl : M.view.LoadsAt (Rect.unit (s := sh) off sh.size hb).toLoadRect}
    {k : (sh.Idx → Elt F e) → Prog (TpuEff nD τ sig (Elt F) Λ₀ .tc) α} :
    (ownE (F := F) c M : sProp 𝕄)
      ⊢ iprop((∀ X, ownE (F := F) c M -∗ WP c (k X) Q) -∗ WP c (.op (.load M (Rect.unit (s := sh) off sh.size hb).toLoadRect hl) k) Q) := by
  iintro ⟨%X, H⟩ Hk
  iapply (wp_load_all c hz fullShare X) $$ H
  iintro H
  iapply Hk
  iexists X; iexact H

/-- The barrier and the start of the copies of the device's own block of `x`. -/
theorem part5 {Q : Post F (Σ' (d0 : Dev nD) (v2 : BitVec 32) (v5 : BitVec 32), BitVec 32)} :
    iprop(records m ∗ levAts L lv ∗ ow c (owed₀ c) ∗ cred (tallyAt (barC c) 1 2) ∗ atPos ER (barC c) 0 ∅ 0
        ∗ dutyTok ER (barC (up false c)) 0 false ∗ dutyTok ER (barC (up true c)) 0 true
        ∗ ownE (F := F) c (dstM false 0) ∗ ownE (F := F) c (dstM true 0)
        ∗ (xHold m false c ∗ ownE (F := F) c (xsl false) ∗ semVal ((c : Thread nD τ), .dma (xD false)) 0)
        ∗ (xHold m true c ∗ ownE (F := F) c (xsl true) ∗ semVal ((c : Thread nD τ), .dma (xD true)) 0))
      ⊢ iprop((∀ v2 v5 v7, (ow c (owed c 0) ∗ atPos ER (barC c) 1 ∅ 0 ∗ slotPay (F := F) false c 0 ∗ slotPay (F := F) true c 0
            ∗ xFly m false c c ∗ xFly m true c c) -∗ Q ⟨c, v2, v5, v7⟩)
          -∗ WP c (k0_part5 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18) Q) := by
  rw [k0_part5_eq_skeleton]
  unfold k0_part5_skel
  simp only [semSignalWord, semWaitWord, Prog.lift, Prog.bind_op, Prog.bind_ret, Prog.pure_eq_ret, Prog.bind_assoc, wp_deviceId]
  iintro ⟨#HR, #Hl, HO, Hcb, Hab, Ht0, Ht1, HB0, HB1, HX0, HX1⟩ Hk
  unfold owed₀
  iapply (wp_bar_signal m c false _ (Fin.ext (k0_dev1_eq c)) rfl (owed c 0 + barDue true c)) $$ [HO Ht0 HB0]
  · isplitr; · iexact HR
    isplitl [HO]; · iexact HO
    isplitl [Ht0] <;> iassumption
  iintro HO
  iapply (wp_bar_signal m c true _ (Fin.ext (k0_dev2_eq c)) rfl (owed c 0)) $$ [HO Ht1 HB1]
  · isplitr; · iexact HR
    isplitl [HO]; · iexact HO
    isplitl [Ht1] <;> iassumption
  iintro HO
  iapply (wp_bar_wait m c rfl (fun K => rfl) (owed c 0) (above_owed c 0)) $$ [HO Hcb Hab]
  · isplitr; · iexact HR
    isplitr; · iexact Hl
    isplitl [HO]; · iexact HO
    isplitl [Hcb] <;> iassumption
  iintro ⟨HO, Hab, HS0, HS1⟩
  iapply (wp_xcopy m c false c (k0_off1_eq c) rfl rfl) $$ HX0
  iintro HX0
  iapply (wp_xcopy m c true c (k0_off2_eq c) rfl rfl) $$ HX1
  iintro HX1
  iapply (wp_done c)
  iapply Hk
  isplitl [HO]; · iexact HO
  isplitl [Hab]; · iexact Hab
  isplitl [HS0]; · iexact HS0
  isplitl [HS1]; · iexact HS1
  isplitl [HX0] <;> iassumption

/-- The first three quarters of the weight, and the start of the copy of the last. -/
theorem part6 {Q : Post F PUnit} (O : CellTallies nD τ sig ℕ) (hO : Above 1 O) :
    iprop(levAts L lv ∗ ow c O ∗ wHold m c ∗ ownE (F := F) c A4 ∗ semVal ((c : Thread nD τ), .dma wD) 0
        ∗ ownE (F := F) c (wbs 0) ∗ ownE (F := F) c (wbs 1) ∗ ownE (F := F) c (wbs 2))
      ⊢ iprop(((ow c O ∗ wFly m c 3 ∗ ownF c (wbs 0) (k0_pay15 (wblk m c 0)) ∗ ownF c (wbs 1) (k0_pay15 (wblk m c 1))
            ∗ ownF c (wbs 2) (k0_pay15 (wblk m c 2))) -∗ Q ⟨⟩)
          -∗ WP c (k0_part6 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18) Q) := by
  rw [k0_part6_eq_skeleton]
  unfold k0_part6_skel
  simp only [Prog.lift, Prog.bind_op, Prog.bind_ret, Prog.pure_eq_ret, Prog.bind_assoc]
  iintro ⟨#Hl, HO, HW, HA, Hv, H0, H1, H2⟩ Hk
  iapply (wp_wcopy m c 0 rfl rfl) $$ [HW HA Hv]
  · isplitl [HW]; · iexact HW
    isplitl [HA] <;> iassumption
  iintro HF
  iapply (wp_wwait m c 0 rfl rfl O hO) $$ [HF HO]
  · isplitr; · iexact Hl
    isplitl [HO] <;> iassumption
  iintro ⟨HO, HW, HA, Hv⟩
  iapply (wp_load_all c zero2 fullShare _) $$ HA
  iintro HA
  iapply (wp_peek c _) $$ H0
  iintro %X0 H0
  iapply (wp_store_slice c _) $$ H0
  iintro H0
  iapply (wp_wcopy m c 1 rfl rfl) $$ [HW HA Hv]
  · isplitl [HW]; · iexact HW
    isplitl [HA]; · iexists _; iexact HA
    iexact Hv
  iintro HF
  iapply (wp_wwait m c 1 rfl rfl O hO) $$ [HF HO]
  · isplitr; · iexact Hl
    isplitl [HO] <;> iassumption
  iintro ⟨HO, HW, HA, Hv⟩
  iapply (wp_load_all c zero2 fullShare _) $$ HA
  iintro HA
  iapply (wp_peek c _) $$ H1
  iintro %X1 H1
  iapply (wp_store_slice c _) $$ H1
  iintro H1
  iapply (wp_wcopy m c 2 rfl rfl) $$ [HW HA Hv]
  · isplitl [HW]; · iexact HW
    isplitl [HA]; · iexists _; iexact HA
    iexact Hv
  iintro HF
  iapply (wp_wwait m c 2 rfl rfl O hO) $$ [HF HO]
  · isplitr; · iexact Hl
    isplitl [HO] <;> iassumption
  iintro ⟨HO, HW, HA, Hv⟩
  iapply (wp_load_all c zero2 fullShare _) $$ HA
  iintro HA
  iapply (wp_peek c _) $$ H2
  iintro %X2 H2
  iapply (wp_store_slice c _) $$ H2
  iintro H2
  iapply (wp_wcopy m c 3 rfl rfl) $$ [HW HA Hv]
  · isplitl [HW]; · iexact HW
    isplitl [HA]; · iexists _; iexact HA
    iexact Hv
  iintro HF
  iapply (wp_done c)
  iapply Hk
  isplitl [HO]; · iexact HO
  isplitl [HF]; · iexact HF
  isplitl [H0]; · iexact H0
  isplitl [H1]; · iexact H1
  iexact H2

/-- The last quarter of the weight, and the device's own block of `x`, rounded. -/
theorem part7 {Q : Post F PUnit} (O : CellTallies nD τ sig ℕ) (hO : Above 1 O) :
    iprop(levAts L lv ∗ ow c O ∗ wFly m c 3 ∗ ownE (F := F) c (wbs 3) ∗ xFly m false c c ∗ xFly m true c c
        ∗ ownE (F := F) c (xbs false) ∗ ownE (F := F) c (xbs true))
      ⊢ iprop(((ow c O ∗ wHold m c ∗ ownE (F := F) c A4 ∗ semVal ((c : Thread nD τ), .dma wD) 0 ∗ ownF c (wbs 3) (k0_pay15 (wblk m c 3))
            ∗ (xHold m false c ∗ ownE (F := F) c (xsl false) ∗ semVal ((c : Thread nD τ), .dma (xD false)) 0)
            ∗ (xHold m true c ∗ ownE (F := F) c (xsl true) ∗ semVal ((c : Thread nD τ), .dma (xD true)) 0)
            ∗ ownF c (xbs false) (k0_pay1 (xblk1 m false c c)) ∗ ownF c (xbs true) (k0_pay1 (xblk1 m true c c))) -∗ Q ⟨⟩)
          -∗ WP c (k0_part7 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 c) Q) := by
  rw [k0_part7_eq_skeleton]
  unfold k0_part7_skel
  simp only [Prog.lift, Prog.bind_op, Prog.bind_ret, Prog.pure_eq_ret, Prog.bind_assoc]
  iintro ⟨#Hl, HO, HF, H3, HX0, HX1, HB0, HB1⟩ Hk
  iapply (wp_wwait m c 3 rfl rfl O hO) $$ [HF HO]
  · isplitr; · iexact Hl
    isplitl [HO] <;> iassumption
  iintro ⟨HO, HW, HA, Hv⟩
  iapply (wp_load_all c zero2 fullShare _) $$ HA
  iintro HA
  iapply (wp_peek c _) $$ H3
  iintro %X3 H3
  iapply (wp_store_slice c _) $$ H3
  iintro H3
  iapply (wp_xwait m c false c (dstw := xsq false) rfl (by rfl) O hO) $$ [HX0 HO]
  · isplitr; · iexact Hl
    isplitl [HO] <;> iassumption
  iintro ⟨HO, HX0, HS0, Hv0⟩
  iapply (wp_xwait m c true c (dstw := xsq true) rfl (by rfl) O hO) $$ [HX1 HO]
  · isplitr; · iexact Hl
    isplitl [HO] <;> iassumption
  iintro ⟨HO, HX1, HS1, Hv1⟩
  iapply (wp_load_slice c _ fullShare _) $$ HS0
  iintro HS0
  iapply (wp_peek c _) $$ HB0
  iintro %Y0 HB0
  iapply (wp_store_slice c _) $$ HB0
  iintro HB0
  iapply (wp_load_slice c _ fullShare _) $$ HS1
  iintro HS1
  iapply (wp_peek c _) $$ HB1
  iintro %Y1 HB1
  iapply (wp_store_slice c _) $$ HB1
  iintro HB1
  iapply (wp_done c)
  iapply Hk
  isplitl [HO]; · iexact HO
  isplitl [HW]; · iexact HW
  isplitl [HA]; · iexists _; iexact HA
  isplitl [Hv]; · iexact Hv
  isplitl [H3]; · iexact H3
  isplitl [HX0 HS0 Hv0]
  · isplitl [HX0]; · iexact HX0
    isplitl [HS0]; · iexists _; iexact HS0
    iexact Hv0
  isplitl [HX1 HS1 Hv1]
  · isplitl [HX1]; · iexact HX1
    isplitl [HS1]; · iexists _; iexact HS1
    iexact Hv1
  isplitl [HB0]; · iexact HB0
  iexact HB1

end Blocks

end Cert.Rings

end

end
-- ==== Proof.Trip.lean ====
module

public import proofs.«01_k».proof.Proof.Prefix

/-! # The pieces of a trip of the loop

The conditions of a trip in closed form; the two credit waits, the two sends, the four waits of a hop; the
new partial products; the sums; the received blocks written out. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-- A trip of the loop. -/
abbrev Trip : Type := Fin k0_t1_loop.trips

theorem trips_eq : k0_t1_loop.trips = 14 := by decide +kernel

theorem cond1 : ∀ k : Trip, (Scalar.cmpi .ne (Scalar.extui (Scalar.cmpi .sge (Scf.iv 0#32 1#32 k) 1#32) : BitVec 32) 0#32 = 1#1) ↔ 1 ≤ k.val := by
  decide +kernel
theorem cond2 : ∀ k : Trip, k0_cond2 k = 1#1 ↔ swp k.val = false := by decide +kernel
theorem cond3 : ∀ k : Trip, k0_cond3 k = 1#1 ↔ swp k.val = true := by decide +kernel
theorem cond4 : ∀ k : Trip, k0_cond4 k = 1#1 ↔ k.val < 7 := by decide +kernel
theorem cond5 : ∀ k : Trip, k.val < 7 → (k0_cond5 k = 1#1 ↔ k.val = 6) := by decide +kernel
theorem cond6 : ∀ k : Trip, k0_cond6 k = 1#1 ↔ 7 ≤ k.val := by decide +kernel
theorem cond7 : ∀ k : Trip, 7 ≤ k.val → ((Scalar.cmpi .ne (Scalar.extui (Scalar.cmpi .eq (Scalar.remsi (Scalar.subi (Scf.iv 0#32 1#32 k) 7#32) 2#32) 0#32) : BitVec 32) 0#32 = 1#1)
    ↔ swp k.val = false) := by decide +kernel
theorem cond8 : ∀ k : Trip, 7 ≤ k.val → ((Scalar.cmpi .ne (Scalar.extui (Scalar.cmpi .eq (Scalar.remsi (Scalar.subi (Scf.iv 0#32 1#32 k) 7#32) 2#32) 1#32) : BitVec 32) 0#32 = 1#1)
    ↔ swp k.val = true) := by decide +kernel
theorem cond9 : ∀ k : Trip, 7 ≤ k.val → (k0_cond9 k = 1#1 ↔ k.val < 13) := by decide +kernel
theorem off8 : ∀ (c : Dev nD) (k : Trip), 7 ≤ k.val → k0_off8 c k = ![1024 * ((c.val + k.val + 1) % 8) + 512, 0] := by decide +kernel

/-- Which buffers a hop reads and writes: before the ninth, always the same two. -/
theorem swp_lo {k : ℕ} (h : k < 8) : swp k = false := by simp [swp]; omega
/-- From the eighth hop on, a hop sends what the one before it received. -/
theorem swp_step {k : ℕ} (h : 7 ≤ k) : swp (k + 1) = !swp k := by
  unfold swp
  by_cases h2 : k % 2 = 0
  · rw [decide_eq_false (by omega)]
    by_cases h8 : 8 ≤ k
    · rw [decide_eq_true (by omega)]; rfl
    · omega
  · rw [decide_eq_true (by omega), decide_eq_false (by omega)]; rfl

theorem src_false {b : Bool} {k : ℕ} (h : swp k = false) : srcM b k = bufM b false := by unfold srcM; rw [h]
theorem src_true {b : Bool} {k : ℕ} (h : swp k = true) : srcM b k = bufM b true := by unfold srcM; rw [h]
theorem dst_false {b : Bool} {k : ℕ} (h : swp k = false) : dstM b k = bufM b true := by unfold dstM; rw [h]; rfl
theorem dst_true {b : Bool} {k : ℕ} (h : swp k = true) : dstM b k = bufM b false := by unfold dstM; rw [h]; rfl
theorem src_step {b : Bool} {k : ℕ} (h : 7 ≤ k) : srcM b (k + 1) = dstM b k := by unfold srcM dstM; rw [swp_step h]
theorem dst_step {b : Bool} {k : ℕ} (h : 7 ≤ k) : dstM b (k + 1) = srcM b k := by unfold srcM dstM; rw [swp_step h, Bool.not_not]

/-- Equal memrefs are owned alike. -/
theorem as_eq (c : Dev nD) {sp : Space} {sh : Shape} {e : EltTy} {M M' : Memref sig .tc sp sh e} (h : M = M') (X : sh.Idx → Elt F e) :
    (ownF c M X : sProp 𝕄) ⊢ ownF c M' X := by subst h; exact .rfl
theorem as_eqE (c : Dev nD) {sp : Space} {sh : Shape} {e : EltTy} {M M' : Memref sig .tc sp sh e} (h : M = M') :
    (ownE (F := F) c M : sProp 𝕄) ⊢ ownE (F := F) c M' := by subst h; exact .rfl
theorem forget (c : Dev nD) {sp : Space} {sh : Shape} {e : EltTy} (M : Memref sig .tc sp sh e) (X : sh.Idx → Elt F e) :
    (ownF c M X : sProp 𝕄) ⊢ ownE (F := F) c M := by iintro H; iexists X; iexact H

/-- Ready to send hop `k`, with the receiver's buffer and the message. -/
abbrev ready (b : Bool) (c : Dev nD) (k : ℕ) : sProp 𝕄 :=
  iprop(stA (F := F) b c k ∗ slotPay (F := F) b c k ∗ ownF c (srcM b k) (v m b k c))
/-- After the waits of hop `k`: the message sent and the message received. -/
abbrev landed (b : Bool) (c : Dev nD) (k : ℕ) : sProp 𝕄 :=
  iprop(stD (F := F) b c k ∗ ownF c (srcM b k) (v m b k c) ∗ ownF c (dstM b k) (v m b k (up b c)))
/-- The staging of `x` at rest. -/
abbrev xRest (b : Bool) (c : Dev nD) : sProp 𝕄 :=
  iprop(xHold m b c ∗ ownE (F := F) c (xsl b) ∗ semVal ((c : Thread nD τ), .dma (xD b)) 0)
/-- What direction `b` holds of the ring when the last hop is done. -/
abbrev ringEnd (b : Bool) (c : Dev nD) : sProp 𝕄 :=
  iprop(stD (F := F) b c 13 ∗ ownE (F := F) c (srcM b 13) ∗ ownE (F := F) c (dstM b 13))
/-- What direction `b` holds of the ring before trip `k`. -/
def ringAt (b : Bool) (c : Dev nD) (k : ℕ) : sProp 𝕄 :=
  if k = 0 then ready m b c 0 else if k < 14 then iprop(stE (F := F) b c (k - 1) ∗ ownF c (srcM b k) (v m b k c)) else ringEnd b c

theorem ringAt_zero (b : Bool) (c : Dev nD) : ringAt m b c 0 = ready m b c 0 := rfl
theorem ringAt_succ (b : Bool) (c : Dev nD) {k : ℕ} (h : k < 13) :
    ringAt m b c (k + 1) = iprop(stE (F := F) b c k ∗ ownF c (srcM b (k + 1)) (v m b (k + 1) c)) := by
  unfold ringAt; rw [if_neg (by omega), if_pos (by omega), Nat.add_sub_cancel]
theorem ringAt_end (b : Bool) (c : Dev nD) : ringAt m b c 14 = ringEnd b c := rfl

theorem v_lo (b : Bool) (c : Dev nD) {k : ℕ} (h : k < 7) : v m b (k + 1) c = k0_pay9 (dot m b c (ch b c k)) (v m b k (up b c)) := if_pos h
theorem v_hi (b : Bool) (c : Dev nD) {k : ℕ} (h : 7 ≤ k) : v m b (k + 1) c = v m b k (up b c) := if_neg (by omega)
theorem val_first (b : Bool) (c : Dev nD) : val m b c 0 = k0_pay7 (dot m b c (ch b c 6)) (v m b 6 (up b c)) := if_pos rfl
theorem val_next (b : Bool) (c : Dev nD) (n : ℕ) : val m b c (n + 1) = k0_pay11 (v m b (7 + n) (up b c)) := by
  unfold val; rw [if_neg (by omega), show 6 + (n + 1) = 7 + n by omega]

/-- Equal contents are owned alike. -/
theorem as_val (c : Dev nD) {sp : Space} {sh : Shape} {e : EltTy} {M : Memref sig .tc sp sh e} {X X' : sh.Idx → Elt F e} (h : X = X') :
    (ownF c M X : sProp 𝕄) ⊢ ownF c M X' := by subst h; exact .rfl

section Pieces
variable {α : Type} {Q : Post F α} {K : PUnit → Prog (TpuEff nD τ sig (Elt F) Λ₀ .tc) α} (c : Dev nD)

/-- The two credit waits, in every trip but the first. -/
theorem credits2 (k : Trip) {K' : Prog (TpuEff nD τ sig (Elt F) Λ₀ .tc) α} :
    iprop(records m ∗ levAts L lv ∗ ow c (owed c k) ∗ ringAt m false c k ∗ ringAt m true c k)
      ⊢ iprop(((ow c (owed c k) ∗ ready m false c k ∗ ready m true c k) -∗ WP c K' Q)
          -∗ WP c (if _h : (Scalar.cmpi .ne (Scalar.extui (Scalar.cmpi .sge (Scf.iv 0#32 1#32 k) 1#32) : BitVec 32) 0#32 = 1#1) then
              .op (.semWait cc0_scratch17.sem (1#32 : BitVec 32).toNat) (fun _ => .op (.semWait cc0_scratch18.sem (1#32 : BitVec 32).toNat) (fun _ => K'))
            else K') Q) := by
  by_cases h : 1 ≤ k.val
  · rw [dif_pos ((cond1 k).2 h)]
    obtain ⟨r, hr⟩ : ∃ r, k.val = r + 1 := ⟨k.val - 1, by omega⟩
    have hr' : r < 13 := by have := k.isLt.trans_eq trips_eq; omega
    rw [hr, ringAt_succ m false c hr', ringAt_succ m true c hr']
    iintro ⟨#HR, #Hl, HO, ⟨H0, HB0⟩, ⟨H1, HB1⟩⟩ Hk
    iapply (hop_credit m c false r hr' rfl (fun K => rfl) (owed c (r + 1)) ((above_owed c (r + 1)).mono (by omega))) $$ [HO H0]
    · isplitr; · iexact HR
      isplitr; · iexact Hl
      isplitl [HO]; · iexact HO
      iexact H0
    iintro ⟨HO, H0, HS0⟩
    iapply (hop_credit m c true r hr' rfl (fun K => rfl) (owed c (r + 1)) ((above_owed c (r + 1)).mono (by omega))) $$ [HO H1]
    · isplitr; · iexact HR
      isplitr; · iexact Hl
      isplitl [HO]; · iexact HO
      iexact H1
    iintro ⟨HO, H1, HS1⟩
    iapply Hk
    isplitl [HO]; · iexact HO
    isplitl [H0 HS0 HB0]
    · isplitl [H0]; · iexact H0
      isplitl [HS0] <;> iassumption
    isplitl [H1]; · iexact H1
    isplitl [HS1] <;> iassumption
  · rw [dif_neg (fun h' => h ((cond1 k).1 h'))]
    have h0 : k.val = 0 := by omega
    rw [h0, ringAt_zero, ringAt_zero]
    iintro ⟨_, _, HO, H0, H1⟩ Hk
    iapply Hk
    isplitl [HO]; · iexact HO
    isplitl [H0] <;> iassumption

/-- The two sends of hop `k`. -/
theorem sends2 (k : ℕ) (hk : k < 14) (n0 n1 : Dev nD) (hn0 : n0 = dn false c) (hn1 : n1 = dn true c)
    {s0 d0 s1 d1 : Memref sig .tc .vmem S512x4096 .bf16} (hs0 : s0 = srcM false k) (hd0 : d0 = dstM false k) (hs1 : s1 = srcM true k) (hd1 : d1 = dstM true k)
    {hsc0 : (d0 : Memref sig (Dev.tc n0 : Thread nD τ).2.kind .vmem S512x4096 .bf16).view.ref.isScScratch = false}
    {hsc1 : (d1 : Memref sig (Dev.tc n1 : Thread nD τ).2.kind .vmem S512x4096 .bf16).view.ref.isScScratch = false}
    {e0 : s0.view.WordExact} {f0 : d0.view.WordExact} {e1 : s1.view.WordExact} {f1 : d1.view.WordExact}
    {t0 : DmaTarget.Typed .vmem (.dma cc0_scratch11.sem) (.remote (Dev.tc n0 : Thread nD τ) d0 (.dma cc0_scratch9.sem) hsc0)}
    {t1 : DmaTarget.Typed .vmem (.dma cc0_scratch12.sem) (.remote (Dev.tc n1 : Thread nD τ) d1 (.dma cc0_scratch10.sem) hsc1)} :
    iprop(records m ∗ ow c (owed c k) ∗ ready m false c k ∗ ready m true c k)
      ⊢ iprop(((ow c (owedC c k) ∗ stB (F := F) false c k ∗ stB (F := F) true c k) -∗ WP c (K ⟨⟩) Q)
          -∗ WP c (.op (.enqueueDma s0 (.remote (Dev.tc n0 : Thread nD τ) d0 (.dma cc0_scratch9.sem) hsc0) (.dma cc0_scratch11.sem) e0 f0 t0) (fun _ =>
              .op (.enqueueDma s1 (.remote (Dev.tc n1 : Thread nD τ) d1 (.dma cc0_scratch10.sem) hsc1) (.dma cc0_scratch12.sem) e1 f1 t1) K)) Q) := by
  rw [owed_peel c hk]
  iintro ⟨#HR, HO, ⟨H0, HS0, HB0⟩, ⟨H1, HS1, HB1⟩⟩ Hk
  iapply (hop_send m c false k hk n0 hn0 hs0 hd0 (by rw [hd0]; unfold dstM; cases swp k <;> rfl) rfl rfl (owedB c k)) $$ [HO H0 HS0 HB0]
  · isplitr; · iexact HR
    isplitl [HO]; · iexact HO
    isplitl [H0]; · iexact H0
    isplitl [HS0] <;> iassumption
  iintro ⟨HO, H0⟩
  unfold owedB
  iapply (hop_send m c true k hk n1 hn1 hs1 hd1 (by rw [hd1]; unfold dstM; cases swp k <;> rfl) rfl rfl (owedC c k)) $$ [HO H1 HS1 HB1]
  · isplitr; · iexact HR
    isplitl [HO]; · iexact HO
    isplitl [H1]; · iexact H1
    isplitl [HS1] <;> iassumption
  iintro ⟨HO, H1⟩
  iapply Hk
  isplitl [HO]; · iexact HO
  isplitl [H0] <;> iassumption

/-- The four waits of hop `k`. -/
theorem waits4 (k : ℕ) (hk : k < 14)
    {e0 e3 : (Memref.whole cc0_scratch7 : Memref sig .tc .vmem S512x4096 .bf16).view.WordExact}
    {e1 e2 : (Memref.whole cc0_scratch5 : Memref sig .tc .vmem S512x4096 .bf16).view.WordExact}
    {e4 e7 : (Memref.whole cc0_scratch8 : Memref sig .tc .vmem S512x4096 .bf16).view.WordExact}
    {e5 e6 : (Memref.whole cc0_scratch6 : Memref sig .tc .vmem S512x4096 .bf16).view.WordExact} :
    iprop(records m ∗ levAts L lv ∗ ow c (owedC c k) ∗ stB (F := F) false c k ∗ stB (F := F) true c k)
      ⊢ iprop(((ow c (owedC c k) ∗ landed m false c k ∗ landed m true c k) -∗ WP c (K ⟨⟩) Q)
          -∗ WP c (.op (.waitDma2 cc0_scratch9.sem (Memref.whole cc0_scratch7 : Memref sig .tc .vmem S512x4096 .bf16) (Memref.whole cc0_scratch5 : Memref sig .tc .vmem S512x4096 .bf16) e0 e1) (fun _ =>
              .op (.waitDma2 cc0_scratch11.sem (Memref.whole cc0_scratch5 : Memref sig .tc .vmem S512x4096 .bf16) (Memref.whole cc0_scratch7 : Memref sig .tc .vmem S512x4096 .bf16) e2 e3) (fun _ =>
              .op (.waitDma2 cc0_scratch10.sem (Memref.whole cc0_scratch8 : Memref sig .tc .vmem S512x4096 .bf16) (Memref.whole cc0_scratch6 : Memref sig .tc .vmem S512x4096 .bf16) e4 e5) (fun _ =>
              .op (.waitDma2 cc0_scratch12.sem (Memref.whole cc0_scratch6 : Memref sig .tc .vmem S512x4096 .bf16) (Memref.whole cc0_scratch8 : Memref sig .tc .vmem S512x4096 .bf16) e6 e7) K)))) Q) := by
  have h1 : Above 1 (owedC c k) := (above_owedC c k).mono (by omega)
  iintro ⟨#HR, #Hl, HO, H0, H1⟩ Hk
  iapply (hop_depart m c false k hk (dstw := Memref.whole cc0_scratch5) rfl rfl (owedC c k) h1) $$ [HO H0]
  · isplitr; · iexact HR
    isplitr; · iexact Hl
    isplitl [HO]; · iexact HO
    iexact H0
  iintro ⟨HO, H0, HS0⟩
  iapply (hop_arrive m c false k hk (dstw := Memref.whole cc0_scratch7) rfl rfl (owedC c k) (above_owedC c k)) $$ [HO H0]
  · isplitr; · iexact HR
    isplitr; · iexact Hl
    isplitl [HO]; · iexact HO
    iexact H0
  iintro ⟨HO, H0, HD0⟩
  iapply (hop_depart m c true k hk (dstw := Memref.whole cc0_scratch6) rfl rfl (owedC c k) h1) $$ [HO H1]
  · isplitr; · iexact HR
    isplitr; · iexact Hl
    isplitl [HO]; · iexact HO
    iexact H1
  iintro ⟨HO, H1, HS1⟩
  iapply (hop_arrive m c true k hk (dstw := Memref.whole cc0_scratch8) rfl rfl (owedC c k) (above_owedC c k)) $$ [HO H1]
  · isplitr; · iexact HR
    isplitr; · iexact Hl
    isplitl [HO]; · iexact HO
    iexact H1
  iintro ⟨HO, H1, HD1⟩
  iapply Hk
  isplitl [HO]; · iexact HO
  isplitl [H0 HS0 HD0]
  · isplitl [H0]; · iexact H0
    isplitl [HS0] <;> iassumption
  isplitl [H1]; · iexact H1
  isplitl [HS1] <;> iassumption

/-- The two credits given in hop `k`. -/
theorem signals2 (k : ℕ) (hk : k < 13) (n0 n1 : Dev nD) (hn0 : n0 = up false c) (hn1 : n1 = up true c) :
    iprop(records m ∗ ow c (owedC c k) ∗ (stD (F := F) false c k ∗ ownE (F := F) c (dstM false (k + 1))) ∗ (stD (F := F) true c k ∗ ownE (F := F) c (dstM true (k + 1))))
      ⊢ iprop(((ow c (owed c (k + 1)) ∗ stE (F := F) false c k ∗ stE (F := F) true c k) -∗ WP c (K ⟨⟩) Q)
          -∗ WP c (.op (.semSignal (n0 : Thread nD τ) cc0_scratch17.sem (1#32 : BitVec 32).toNat) (fun _ =>
              .op (.semSignal (n1 : Thread nD τ) cc0_scratch18.sem (1#32 : BitVec 32).toNat) K)) Q) := by
  unfold owedC owedD
  iintro ⟨#HR, HO, ⟨H0, HB0⟩, ⟨H1, HB1⟩⟩ Hk
  iapply (hop_signal m c false k hk n0 hn0 rfl rfl (owed c (k + 1) + crdDue true c k)) $$ [HO H0 HB0]
  · isplitr; · iexact HR
    isplitl [HO]; · iexact HO
    isplitl [H0] <;> iassumption
  iintro ⟨HO, H0⟩
  iapply (hop_signal m c true k hk n1 hn1 rfl rfl (owed c (k + 1))) $$ [HO H1 HB1]
  · isplitr; · iexact HR
    isplitl [HO]; · iexact HO
    isplitl [H1] <;> iassumption
  iintro ⟨HO, H1⟩
  iapply Hk
  isplitl [HO]; · iexact HO
  isplitl [H0] <;> iassumption

end Pieces

section Parts
variable (c : Dev nD)

/-- The copies of the next blocks of `x`, the first of them waited for. -/
theorem part1 {Q : Post F (Σ' (_ : BitVec 32), BitVec 32)} (k : Trip) (v2 w : BitVec 32) (h4 : k0_cond4 k = 1#1)
    (O : CellTallies nD τ sig ℕ) (hO : Above 1 O) :
    iprop(levAts L lv ∗ ow c O ∗ xRest m false c ∗ xRest m true c)
      ⊢ iprop((∀ a, (ow c O ∗ (xHold m false c ∗ ownF c (xsl false) (xblk1 m false c (ch false c k)) ∗ semVal ((c : Thread nD τ), .dma (xD false)) 0)
            ∗ xFly m true c (ch true c k)) -∗ Q a)
          -∗ WP c (k0_part1 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 c v2 k w h4) Q) := by
  rw [k0_part1_eq_skeleton]
  unfold k0_part1_skel
  simp only [Prog.lift, Prog.bind_op, Prog.bind_ret, Prog.pure_eq_ret, Prog.bind_assoc]
  iintro ⟨#Hl, HO, HX0, HX1⟩ Hk
  iapply (wp_xcopy m c false (ch false c k) (k0_off3_eq c k) rfl rfl) $$ HX0
  iintro HX0
  iapply (wp_xcopy m c true (ch true c k) (k0_off4_eq c k) rfl rfl) $$ HX1
  iintro HX1
  iapply (wp_xwait m c false (ch false c k) (dstw := xsq false) rfl (by rfl) O hO) $$ [HX0 HO]
  · isplitr; · iexact Hl
    isplitl [HO] <;> iassumption
  iintro ⟨HO, HX0⟩
  iapply (wp_done c)
  iapply Hk
  isplitl [HO]; · iexact HO
  isplitl [HX0] <;> iassumption

/-- The partial products of the next blocks. -/
theorem part2 {Q : Post F PUnit} (k : Trip) (h4 : k0_cond4 k = 1#1)
    (O : CellTallies nD τ sig ℕ) (hO : Above 1 O) :
    iprop(levAts L lv ∗ ow c O ∗ (xHold m false c ∗ ownF c (xsl false) (xblk1 m false c (ch false c k)) ∗ semVal ((c : Thread nD τ), .dma (xD false)) 0)
        ∗ xFly m true c (ch true c k) ∗ ownE (F := F) c (xbs false) ∗ ownE (F := F) c (xbs true) ∗ ownF c A3 (wbf m c)
        ∗ ownE (F := F) c (acc false) ∗ ownE (F := F) c (acc true))
      ⊢ iprop(((ow c O ∗ xRest m false c ∗ xRest m true c ∗ ownE (F := F) c (xbs false) ∗ ownE (F := F) c (xbs true) ∗ ownF c A3 (wbf m c)
            ∗ ownF c (acc false) (dot m false c (ch false c k)) ∗ ownF c (acc true) (dot m true c (ch true c k))) -∗ Q ⟨⟩)
          -∗ WP c (k0_part2 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 c k h4) Q) := by
  rw [k0_part2_eq_skeleton]
  unfold k0_part2_skel
  simp only [Prog.lift, Prog.bind_op, Prog.bind_ret, Prog.pure_eq_ret, Prog.bind_assoc]
  iintro ⟨#Hl, HO, ⟨HX0, HS0, Hv0⟩, HX1, HB0, HB1, HW, HC0, HC1⟩ Hk
  iapply (wp_xwait m c true (ch true c k) (dstw := xsq true) rfl (by rfl) O hO) $$ [HX1 HO]
  · isplitr; · iexact Hl
    isplitl [HO] <;> iassumption
  iintro ⟨HO, HX1, HS1, Hv1⟩
  iapply (wp_load_slice c _ fullShare _) $$ HS0
  iintro HS0
  iapply (wp_peek c _) $$ HB0
  iintro %Y0 HB0
  iapply (wp_store_slice c _) $$ HB0
  iintro HB0
  iapply (wp_load_slice c _ fullShare _) $$ HS1
  iintro HS1
  iapply (wp_peek c _) $$ HB1
  iintro %Y1 HB1
  iapply (wp_store_slice c _) $$ HB1
  iintro HB1
  iapply (wp_load_slice c _ fullShare _) $$ HB0
  iintro HB0
  iapply (wp_load_all c zero2 fullShare _) $$ HW
  iintro HW
  iapply (wp_peek c _) $$ HC0
  iintro %Z0 HC0
  iapply (wp_store_slice c _) $$ HC0
  iintro HC0
  iapply (wp_load_slice c _ fullShare _) $$ HB1
  iintro HB1
  iapply (wp_load_all c zero2 fullShare _) $$ HW
  iintro HW
  iapply (wp_peek c _) $$ HC1
  iintro %Z1 HC1
  iapply (wp_store_slice c _) $$ HC1
  iintro HC1
  iapply (wp_done c)
  iapply Hk
  isplitl [HO]; · iexact HO
  isplitl [HX0 HS0 Hv0]
  · isplitl [HX0]; · iexact HX0
    isplitl [HS0]; · iexists _; iexact HS0
    iexact Hv0
  isplitl [HX1 HS1 Hv1]
  · isplitl [HX1]; · iexact HX1
    isplitl [HS1]; · iexists _; iexact HS1
    iexact Hv1
  isplitl [HB0]; · iexists _; iexact HB0
  isplitl [HB1]; · iexists _; iexact HB1
  isplitl [HW]; · iexact HW
  isplitl [HC0]; · iexact HC0
  iexact HC1

end Parts

end Cert.Rings

end

end
-- ==== Proof.Sums.lean ====
module

public import proofs.«01_k».proof.Proof.Trip

/-! # The sums and the received blocks of a trip

In the first seven trips the received sum is added to the device's own partial product; after that what
is received is complete and is written out. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

/-- The waits of hop `k` and the sums. -/
theorem part3 {Q : Post F (Σ' (_ : BitVec 32), BitVec 32)} (k : ℕ) (hk : k < 7) (v5 v7 : BitVec 32) :
    iprop(records m ∗ levAts L lv ∗ ow c (owedC c k) ∗ stB (F := F) false c k ∗ stB (F := F) true c k
        ∗ ownF c (acc false) (dot m false c (ch false c k)) ∗ ownF c (acc true) (dot m true c (ch true c k)))
      ⊢ iprop((∀ a, (ow c (owedC c k) ∗ (stD (F := F) false c k ∗ ownE (F := F) c (dstM false (k + 1))) ∗ (stD (F := F) true c k ∗ ownE (F := F) c (dstM true (k + 1)))
            ∗ ownF c (srcM false (k + 1)) (v m false (k + 1) c) ∗ ownF c (srcM true (k + 1)) (v m true (k + 1) c)
            ∗ ownF c (acc false) (k0_pay7 (dot m false c (ch false c k)) (v m false k (up false c)))
            ∗ ownF c (acc true) (k0_pay7 (dot m true c (ch true c k)) (v m true k (up true c)))) -∗ Q a)
          -∗ WP c (k0_part3 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 v5 v7) Q) := by
  have s0 : swp k = false := swp_lo (by omega)
  have s1 : swp (k + 1) = false := swp_lo (by omega)
  rw [k0_part3_eq_skeleton]
  unfold k0_part3_skel
  simp only [Prog.lift, Prog.bind_op, Prog.bind_ret, Prog.pure_eq_ret, Prog.bind_assoc]
  iintro ⟨#HR, #Hl, HO, H0, H1, HC0, HC1⟩ Hk
  iapply (waits4 m c k (by omega)) $$ [HO H0 H1]
  · isplitr; · iexact HR
    isplitr; · iexact Hl
    isplitl [HO]; · iexact HO
    isplitl [H0] <;> iassumption
  iintro ⟨HO, ⟨H0, HS0, HD0⟩, ⟨H1, HS1, HD1⟩⟩
  ihave HS0 := (as_eq c ((src_false s0).trans (rfl : bufM false false = Memref.whole cc0_scratch5)) _) $$ HS0
  ihave HS1 := (as_eq c ((src_false s0).trans (rfl : bufM true false = Memref.whole cc0_scratch6)) _) $$ HS1
  ihave HD0 := (as_eq c ((dst_false s0).trans (rfl : bufM false true = Memref.whole cc0_scratch7)) _) $$ HD0
  ihave HD1 := (as_eq c ((dst_false s0).trans (rfl : bufM true true = Memref.whole cc0_scratch8)) _) $$ HD1
  iapply (wp_load_slice c _ fullShare _) $$ HC0
  iintro HC0
  iapply (wp_load_all c zero2 fullShare _) $$ HD0
  iintro HD0
  iapply (wp_load_slice c _ fullShare _) $$ HC1
  iintro HC1
  iapply (wp_load_all c zero2 fullShare _) $$ HD1
  iintro HD1
  iapply (wp_load_slice c _ fullShare _) $$ HC0
  iintro HC0
  ihave HC0 := (forget c _ _) $$ HC0
  iapply (wp_store_slice c _) $$ HC0
  iintro HC0
  iapply (wp_load_slice c _ fullShare _) $$ HC1
  iintro HC1
  ihave HC1 := (forget c _ _) $$ HC1
  iapply (wp_store_slice c _) $$ HC1
  iintro HC1
  iapply (wp_load_all c zero2 fullShare _) $$ HS0
  iintro HS0
  ihave HS0 := (forget c _ _) $$ HS0
  iapply (wp_store_all c zero2) $$ HS0
  iintro HS0
  iapply (wp_load_all c zero2 fullShare _) $$ HS1
  iintro HS1
  ihave HS1 := (forget c _ _) $$ HS1
  iapply (wp_store_all c zero2) $$ HS1
  iintro HS1
  iapply (wp_done c)
  iapply Hk
  isplitl [HO]; · iexact HO
  isplitl [H0 HD0]
  · isplitl [H0]; · iexact H0
    ihave HD0 := (forget c _ _) $$ HD0
    iapply (as_eqE c ((dst_false s1).trans (rfl : bufM false true = Memref.whole cc0_scratch7)).symm) $$ HD0
  isplitl [H1 HD1]
  · isplitl [H1]; · iexact H1
    ihave HD1 := (forget c _ _) $$ HD1
    iapply (as_eqE c ((dst_false s1).trans (rfl : bufM true true = Memref.whole cc0_scratch8)).symm) $$ HD1
  isplitl [HS0]
  · ihave HS0 := (as_eq c ((src_false s1).trans (rfl : bufM false false = Memref.whole cc0_scratch5)).symm _) $$ HS0
    iapply (as_val c (v_lo m false c hk).symm) $$ HS0
  isplitl [HS1]
  · ihave HS1 := (as_eq c ((src_false s1).trans (rfl : bufM true false = Memref.whole cc0_scratch6)).symm _) $$ HS1
    iapply (as_val c (v_lo m true c hk).symm) $$ HS1
  isplitl [HC0]; · iexact HC0
  iexact HC1

/-- After the last hop nothing is owed. -/
theorem owedC_last : owedC c 13 = owed c 14 := by
  unfold owedC owedD crdDue
  rw [if_neg (by omega), if_neg (by omega), add_zero, add_zero]

set_option maxHeartbeats 2000000 in
/-- The end of a hop of the second phase: the message given up, the received block kept for the next hop, and
    the credit given unless there is no next hop. -/
theorem part4 {Q : Post F (Σ' (_ : BitVec 32), BitVec 32)} (k : Trip) (n : ℕ) (hn : k.val = 7 + n) (v2 v5 v7 : BitVec 32) (h6 : k0_cond6 k = 1#1) :
    iprop(records m ∗ levAts L lv ∗ ow c (owedC c k) ∗ stB (F := F) false c k ∗ stB (F := F) true c k
        ∗ oFly m false c n ∗ oFly m true c n ∗ outRest m c n)
      ⊢ iprop((∀ a, (ow c (owed c (k + 1)) ∗ ringAt m false c (k + 1) ∗ ringAt m true c (k + 1)
            ∗ ownF c (acc false) (val m false c (n + 1)) ∗ ownF c (acc true) (val m true c (n + 1)) ∗ outHold m c (n + 1)
            ∗ semVal ((c : Thread nD τ), .dma (outD false)) 0 ∗ semVal ((c : Thread nD τ), .dma (outD true)) 0) -∗ Q a)
          -∗ WP c (k0_part4 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 c v2 v5 v7 k (Scf.iv 0#32 1#32 k) h6) Q) := by
  have hk : 7 ≤ k.val := by omega
  have hk' : k.val < 14 := k.isLt.trans_eq trips_eq
  have hO : Above 1 (owedC c k) := (above_owedC c k).mono (by omega)
  rw [k0_part4_eq_skeleton]
  unfold k0_part4_skel
  have step : ∀ b, iprop(stD (F := F) b c k ∗ ownE (F := F) c (srcM b k) ∗ ownF c (dstM b k) (v m b k (up b c))) ⊢
      iprop(stD (F := F) b c k ∗ ownE (F := F) c (dstM b (k + 1)) ∗ ownF c (srcM b (k + 1)) (v m b (k + 1) c)) := fun b => by
    iintro ⟨H, HS, HD⟩
    isplitl [H]; · iexact H
    isplitl [HS]
    · iapply (as_eqE c (dst_step hk).symm) $$ HS
    ihave HD := (as_eq c (src_step hk).symm _) $$ HD
    iapply (as_val c (v_hi m b c hk).symm) $$ HD
  cases hs : swp k.val
  · simp only [dif_pos ((cond7 k hk).2 hs), dif_neg (fun h => Bool.false_ne_true (hs.symm.trans ((cond8 k hk).1 h))),
      semSignalWord, Prog.lift, Prog.bind_op, Prog.bind_ret, Prog.pure_eq_ret, Prog.bind_assoc]
    iintro ⟨#HR, #Hl, HO, H0, H1, HF0, HF1, Hrest⟩ Hk
    iapply (waits4 m c k hk') $$ [HO H0 H1]
    · isplitr; · iexact HR
      isplitr; · iexact Hl
      isplitl [HO]; · iexact HO
      isplitl [H0] <;> iassumption
    iintro ⟨HO, ⟨H0, HS0, HD0⟩, ⟨H1, HS1, HD1⟩⟩
    iapply (wp_owait m c false n rfl (by rfl) (owedC c k) hO) $$ [HO HF0]
    · isplitr; · iexact Hl
      isplitl [HO] <;> iassumption
    iintro ⟨HO, HW0, HC0, Hv0⟩
    iapply (wp_owait m c true n rfl (by rfl) (owedC c k) hO) $$ [HO HF1]
    · isplitr; · iexact Hl
      isplitl [HO] <;> iassumption
    iintro ⟨HO, HW1, HC1, Hv1⟩
    ihave Hout := (out_put m c n (by omega)) $$ [HW0 HW1 Hrest]
    · isplitl [HW0]; · iexact HW0
      isplitl [HW1] <;> iassumption
    ihave HD0 := (as_eq c ((dst_false hs).trans (rfl : bufM false true = Memref.whole cc0_scratch7)) _) $$ HD0
    ihave HD1 := (as_eq c ((dst_false hs).trans (rfl : bufM true true = Memref.whole cc0_scratch8)) _) $$ HD1
    ihave HC0 := (forget c _ _) $$ HC0
    ihave HC1 := (forget c _ _) $$ HC1
    iapply (wp_load_all c zero2 fullShare _) $$ HD0
    iintro HD0
    iapply (wp_peek c _) $$ HC0
    iintro %Z0 HC0
    iapply (wp_store_slice c _) $$ HC0
    iintro HC0
    iapply (wp_load_all c zero2 fullShare _) $$ HD1
    iintro HD1
    iapply (wp_peek c _) $$ HC1
    iintro %Z1 HC1
    iapply (wp_store_slice c _) $$ HC1
    iintro HC1
    ihave HD0 := (as_eq c ((dst_false hs).trans (rfl : bufM false true = Memref.whole cc0_scratch7)).symm _) $$ HD0
    ihave HD1 := (as_eq c ((dst_false hs).trans (rfl : bufM true true = Memref.whole cc0_scratch8)).symm _) $$ HD1
    ihave HS0 := (forget c _ _) $$ HS0
    ihave HS1 := (forget c _ _) $$ HS1
    ihave HC0 := (as_val c ((congrArg (fun i => k0_pay11 (v m false i (up false c))) hn).trans (val_next m false c n).symm)) $$ HC0
    ihave HC1 := (as_val c ((congrArg (fun i => k0_pay11 (v m true i (up true c))) hn).trans (val_next m true c n).symm)) $$ HC1
    by_cases h13 : k.val < 13
    · rw [dif_pos ((cond9 k hk).2 h13), ringAt_succ m false c h13, ringAt_succ m true c h13]
      ihave HT0 := (step false) $$ [H0 HS0 HD0]
      · isplitl [H0]; · iexact H0
        isplitl [HS0] <;> iassumption
      icases HT0 with ⟨H0, HS0, HD0⟩
      ihave HT1 := (step true) $$ [H1 HS1 HD1]
      · isplitl [H1]; · iexact H1
        isplitl [HS1] <;> iassumption
      icases HT1 with ⟨H1, HS1, HD1⟩
      iapply (signals2 m c k h13 _ _ (Fin.ext (k0_dev9_eq c)) (Fin.ext (k0_dev10_eq c))) $$ [HO H0 H1 HS0 HS1]
      · isplitr; · iexact HR
        isplitl [HO]; · iexact HO
        isplitl [H0 HS0]
        · isplitl [H0] <;> iassumption
        isplitl [H1] <;> iassumption
      iintro ⟨HO, H0, H1⟩
      iapply (wp_done c)
      iapply Hk
      isplitl [HO]; · iexact HO
      isplitl [H0 HD0]
      · isplitl [H0] <;> iassumption
      isplitl [H1 HD1]
      · isplitl [H1] <;> iassumption
      isplitl [HC0]; · iexact HC0
      isplitl [HC1]; · iexact HC1
      isplitl [Hout]; · iexact Hout
      isplitl [Hv0] <;> iassumption
    · rw [dif_neg (fun h => h13 ((cond9 k hk).1 h))]
      have e : k.val = 13 := by omega
      rw [e, ringAt_end, ringAt_end, owedC_last]
      iapply (wp_done c)
      iapply Hk
      isplitl [HO]; · iexact HO
      isplitl [H0 HS0 HD0]
      · isplitl [H0]; · iexact H0
        isplitl [HS0]; · iexact HS0
        iapply (forget c _ _) $$ HD0
      isplitl [H1 HS1 HD1]
      · isplitl [H1]; · iexact H1
        isplitl [HS1]; · iexact HS1
        iapply (forget c _ _) $$ HD1
      isplitl [HC0]; · iexact HC0
      isplitl [HC1]; · iexact HC1
      isplitl [Hout]; · iexact Hout
      isplitl [Hv0] <;> iassumption
  · simp only [dif_neg (fun h => Bool.false_ne_true (((cond7 k hk).1 h).symm.trans hs)), dif_pos ((cond8 k hk).2 hs),
      semSignalWord, Prog.lift, Prog.bind_op, Prog.bind_ret, Prog.pure_eq_ret, Prog.bind_assoc]
    iintro ⟨#HR, #Hl, HO, H0, H1, HF0, HF1, Hrest⟩ Hk
    iapply (waits4 m c k hk') $$ [HO H0 H1]
    · isplitr; · iexact HR
      isplitr; · iexact Hl
      isplitl [HO]; · iexact HO
      isplitl [H0] <;> iassumption
    iintro ⟨HO, ⟨H0, HS0, HD0⟩, ⟨H1, HS1, HD1⟩⟩
    iapply (wp_owait m c false n rfl (by rfl) (owedC c k) hO) $$ [HO HF0]
    · isplitr; · iexact Hl
      isplitl [HO] <;> iassumption
    iintro ⟨HO, HW0, HC0, Hv0⟩
    iapply (wp_owait m c true n rfl (by rfl) (owedC c k) hO) $$ [HO HF1]
    · isplitr; · iexact Hl
      isplitl [HO] <;> iassumption
    iintro ⟨HO, HW1, HC1, Hv1⟩
    ihave Hout := (out_put m c n (by omega)) $$ [HW0 HW1 Hrest]
    · isplitl [HW0]; · iexact HW0
      isplitl [HW1] <;> iassumption
    ihave HD0 := (as_eq c ((dst_true hs).trans (rfl : bufM false false = Memref.whole cc0_scratch5)) _) $$ HD0
    ihave HD1 := (as_eq c ((dst_true hs).trans (rfl : bufM true false = Memref.whole cc0_scratch6)) _) $$ HD1
    ihave HC0 := (forget c _ _) $$ HC0
    ihave HC1 := (forget c _ _) $$ HC1
    iapply (wp_load_all c zero2 fullShare _) $$ HD0
    iintro HD0
    iapply (wp_peek c _) $$ HC0
    iintro %Z0 HC0
    iapply (wp_store_slice c _) $$ HC0
    iintro HC0
    iapply (wp_load_all c zero2 fullShare _) $$ HD1
    iintro HD1
    iapply (wp_peek c _) $$ HC1
    iintro %Z1 HC1
    iapply (wp_store_slice c _) $$ HC1
    iintro HC1
    ihave HD0 := (as_eq c ((dst_true hs).trans (rfl : bufM false false = Memref.whole cc0_scratch5)).symm _) $$ HD0
    ihave HD1 := (as_eq c ((dst_true hs).trans (rfl : bufM true false = Memref.whole cc0_scratch6)).symm _) $$ HD1
    ihave HS0 := (forget c _ _) $$ HS0
    ihave HS1 := (forget c _ _) $$ HS1
    ihave HC0 := (as_val c ((congrArg (fun i => k0_pay11 (v m false i (up false c))) hn).trans (val_next m false c n).symm)) $$ HC0
    ihave HC1 := (as_val c ((congrArg (fun i => k0_pay11 (v m true i (up true c))) hn).trans (val_next m true c n).symm)) $$ HC1
    by_cases h13 : k.val < 13
    · rw [dif_pos ((cond9 k hk).2 h13), ringAt_succ m false c h13, ringAt_succ m true c h13]
      ihave HT0 := (step false) $$ [H0 HS0 HD0]
      · isplitl [H0]; · iexact H0
        isplitl [HS0] <;> iassumption
      icases HT0 with ⟨H0, HS0, HD0⟩
      ihave HT1 := (step true) $$ [H1 HS1 HD1]
      · isplitl [H1]; · iexact H1
        isplitl [HS1] <;> iassumption
      icases HT1 with ⟨H1, HS1, HD1⟩
      iapply (signals2 m c k h13 _ _ (Fin.ext (k0_dev9_eq c)) (Fin.ext (k0_dev10_eq c))) $$ [HO H0 H1 HS0 HS1]
      · isplitr; · iexact HR
        isplitl [HO]; · iexact HO
        isplitl [H0 HS0]
        · isplitl [H0] <;> iassumption
        isplitl [H1] <;> iassumption
      iintro ⟨HO, H0, H1⟩
      iapply (wp_done c)
      iapply Hk
      isplitl [HO]; · iexact HO
      isplitl [H0 HD0]
      · isplitl [H0] <;> iassumption
      isplitl [H1 HD1]
      · isplitl [H1] <;> iassumption
      isplitl [HC0]; · iexact HC0
      isplitl [HC1]; · iexact HC1
      isplitl [Hout]; · iexact Hout
      isplitl [Hv0] <;> iassumption
    · rw [dif_neg (fun h => h13 ((cond9 k hk).1 h))]
      have e : k.val = 13 := by omega
      rw [e, ringAt_end, ringAt_end, owedC_last]
      iapply (wp_done c)
      iapply Hk
      isplitl [HO]; · iexact HO
      isplitl [H0 HS0 HD0]
      · isplitl [H0]; · iexact H0
        isplitl [HS0]; · iexact HS0
        iapply (forget c _ _) $$ HD0
      isplitl [H1 HS1 HD1]
      · isplitl [H1]; · iexact H1
        isplitl [HS1]; · iexact HS1
        iapply (forget c _ _) $$ HD1
      isplitl [HC0]; · iexact HC0
      isplitl [HC1]; · iexact HC1
      isplitl [Hout]; · iexact Hout
      isplitl [Hv0] <;> iassumption

end Cert.Rings

end

end
-- ==== Proof.Loop.lean ====
module

public import proofs.«01_k».proof.Proof.Sums

/-! # The loop and the whole body

The invariant of the loop, one trip of each phase, and the body from its first operation to its last. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

/-- What device `c` holds of the result before trip `k`. -/
def outAt (k : ℕ) : sProp 𝕄 :=
  if k < 7 then iprop(ownE (F := F) c (acc false) ∗ ownE (F := F) c (acc true) ∗ outHold m c 0
      ∗ semVal ((c : Thread nD τ), .dma (outD false)) 0 ∗ semVal ((c : Thread nD τ), .dma (outD true)) 0)
  else iprop(oFly m false c (k - 7) ∗ oFly m true c (k - 7) ∗ outRest m c (k - 7))

theorem outAt_lo {k : ℕ} (h : k < 7) : outAt m c k = iprop(ownE (F := F) c (acc false) ∗ ownE (F := F) c (acc true) ∗ outHold m c 0
      ∗ semVal ((c : Thread nD τ), .dma (outD false)) 0 ∗ semVal ((c : Thread nD τ), .dma (outD true)) 0) := if_pos h
theorem outAt_hi (n : ℕ) : outAt m c (7 + n) = iprop(oFly m false c n ∗ oFly m true c n ∗ outRest m c n) := by
  unfold outAt; rw [if_neg (by omega), Nat.add_sub_cancel_left]
theorem outAt_hi' {k n : ℕ} (h : k = 7 + n) : outAt m c k = iprop(oFly m false c n ∗ oFly m true c n ∗ outRest m c n) := by
  rw [h, outAt_hi]

/-- What device `c` holds before trip `k` of the loop. -/
abbrev inv (k : ℕ) : sProp 𝕄 :=
  iprop(records m ∗ levAts L lv ∗ ow c (owed c k) ∗ ringAt m false c k ∗ ringAt m true c k ∗ xRest m false c ∗ xRest m true c
    ∗ ownE (F := F) c (xbs false) ∗ ownE (F := F) c (xbs true) ∗ ownF c A3 (wbf m c) ∗ outAt m c k)

/-- The two copies of a finished block to the result. -/
theorem copies2 {α : Type} {Q : Post F α} {K : PUnit → Prog (TpuEff nD τ sig (Elt F) Λ₀ .tc) α} (n : ℕ) (hn : n < 8) {off0 off1 : Fin 2 → ℕ}
    (h0 : off0 = ![row0 false (jn false c n), 0]) (h1 : off1 = ![row0 true (jn true c n), 0])
    {i0 : ∀ a, off0 a + S512x4096.size a ≤ S8192x4096.size a} {i1 : ∀ a, off1 a + S512x4096.size a ≤ S8192x4096.size a}
    {r0 : ∀ a, (Rect.unit (s := S8192x4096) off0 S512x4096.size i0).stride a = 1} {r1 : ∀ a, (Rect.unit (s := S8192x4096) off1 S512x4096.size i1).stride a = 1}
    {s0 : (acc false).view.WordExact} {s1 : (acc true).view.WordExact}
    {d0 : (A2.slice (Rect.unit (s := S8192x4096) off0 S512x4096.size i0) r0).view.WordExact}
    {d1 : (A2.slice (Rect.unit (s := S8192x4096) off1 S512x4096.size i1) r1).view.WordExact}
    {t0 : DmaTarget.Typed (nD := nD) (τ := τ) (p := .tc) .vmem (.dma cc0_scratch15.sem) (.here (A2.slice (Rect.unit (s := S8192x4096) off0 S512x4096.size i0) r0))}
    {t1 : DmaTarget.Typed (nD := nD) (τ := τ) (p := .tc) .vmem (.dma cc0_scratch16.sem) (.here (A2.slice (Rect.unit (s := S8192x4096) off1 S512x4096.size i1) r1))} :
    iprop(ownF c (acc false) (val m false c n) ∗ ownF c (acc true) (val m true c n) ∗ outHold m c n
        ∗ semVal ((c : Thread nD τ), .dma (outD false)) 0 ∗ semVal ((c : Thread nD τ), .dma (outD true)) 0)
      ⊢ iprop((outAt m c (7 + n) -∗ WP c (K ⟨⟩) Q)
          -∗ WP c (.op (.enqueueDma (acc false) (.here (A2.slice (Rect.unit (s := S8192x4096) off0 S512x4096.size i0) r0)) (.dma cc0_scratch15.sem) s0 d0 t0) (fun _ =>
              .op (.enqueueDma (acc true) (.here (A2.slice (Rect.unit (s := S8192x4096) off1 S512x4096.size i1) r1)) (.dma cc0_scratch16.sem) s1 d1 t1) K)) Q) := by
  rw [outAt_hi]
  iintro ⟨HC0, HC1, Hout, Hv0, Hv1⟩ Hk
  ihave Hout := (out_take m c n hn) $$ Hout
  icases Hout with ⟨HW0, HW1, Hrest⟩
  iapply (wp_ocopy m c false n h0 rfl rfl) $$ [HC0 HW0 Hv0]
  · isplitl [HC0]; · iexact HC0
    isplitl [HW0] <;> iassumption
  iintro HF0
  iapply (wp_ocopy m c true n h1 rfl rfl) $$ [HC1 HW1 Hv1]
  · isplitl [HC1]; · iexact HC1
    isplitl [HW1] <;> iassumption
  iintro HF1
  iapply Hk
  isplitl [HF0]; · iexact HF0
  isplitl [HF1] <;> iassumption

set_option maxHeartbeats 2000000 in
/-- A trip of the first phase. -/
theorem trip_lo (k : Trip) (hk : k.val < 7) (v2 v5 v7 : BitVec 32) :
    inv m c k ⊢ WP c (k0_t1_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 c v2 v5 v7 k ⟨⟩) (fun _ => inv m c (k + 1)) := by
  have hs : swp k.val = false := swp_lo (by omega)
  have h4 : k0_cond4 k = 1#1 := (cond4 k).2 hk
  unfold inv
  rw [outAt_lo m c hk]
  unfold k0_t1_body
  simp only [dif_pos ((cond2 k).2 hs), dif_neg (fun h => Bool.false_ne_true (hs.symm.trans ((cond3 k).1 h))), dif_pos h4,
    dif_neg (fun h => absurd ((cond6 k).1 h) (by omega)),
    semSignalWord, semWaitWord, Prog.lift, Prog.bind_op, Prog.bind_ret, Prog.pure_eq_ret, Prog.bind_assoc]
  iintro ⟨#HR, #Hl, HO, H0, H1, HX0, HX1, HB0, HB1, HW, HC0, HC1, Hout, Hv0, Hv1⟩
  iapply (credits2 m c k) $$ [HO H0 H1]
  · isplitr; · iexact HR
    isplitr; · iexact Hl
    isplitl [HO]; · iexact HO
    isplitl [H0] <;> iassumption
  iintro ⟨HO, H0, H1⟩
  iapply (sends2 m c k (by omega) _ _ (Fin.ext (k0_dev3_eq c)) (Fin.ext (k0_dev4_eq c)) (src_false hs).symm (dst_false hs).symm (src_false hs).symm (dst_false hs).symm) $$ [HO H0 H1]
  · isplitr; · iexact HR
    isplitl [HO]; · iexact HO
    isplitl [H0] <;> iassumption
  iintro ⟨HO, H0, H1⟩
  have hO : Above 1 (owedC c k) := (above_owedC c k).mono (by omega)
  iapply (wp_seq c)
  iapply (part1 m c k v2 (Scf.iv 0#32 1#32 k) h4 (owedC c k) hO) $$ [HO HX0 HX1]
  · isplitr; · iexact Hl
    isplitl [HO]; · iexact HO
    isplitl [HX0] <;> iassumption
  iintro %a ⟨HO, HX0, HX1⟩
  obtain ⟨a0, a1⟩ := a
  iapply (wp_seq c)
  iapply (part2 m c k h4 (owedC c k) hO) $$ [HO HX0 HX1 HB0 HB1 HW HC0 HC1]
  · isplitr; · iexact Hl
    isplitl [HO]; · iexact HO
    isplitl [HX0]; · iexact HX0
    isplitl [HX1]; · iexact HX1
    isplitl [HB0]; · iexact HB0
    isplitl [HB1]; · iexact HB1
    isplitl [HW]; · iexact HW
    isplitl [HC0] <;> iassumption
  iintro ⟨HO, HX0, HX1, HB0, HB1, HW, HC0, HC1⟩
  iapply (wp_seq c)
  iapply (part3 m c k hk v5 v7) $$ [HO H0 H1 HC0 HC1]
  · isplitr; · iexact HR
    isplitr; · iexact Hl
    isplitl [HO]; · iexact HO
    isplitl [H0]; · iexact H0
    isplitl [H1]; · iexact H1
    isplitl [HC0] <;> iassumption
  iintro %b ⟨HO, H0, H1, HS0, HS1, HC0, HC1⟩
  obtain ⟨b0, b1⟩ := b
  iapply (signals2 m c k (by omega) _ _ (Fin.ext (k0_dev7_eq c)) (Fin.ext (k0_dev8_eq c))) $$ [HO H0 H1]
  · isplitr; · iexact HR
    isplitl [HO]; · iexact HO
    isplitl [H0] <;> iassumption
  iintro ⟨HO, H0, H1⟩
  rw [ringAt_succ m false c (k := k) (by omega), ringAt_succ m true c (k := k) (by omega)]
  by_cases h6 : k.val = 6
  · rw [dif_pos ((cond5 k hk).2 h6)]
    ihave HC0 := (as_val c ((congrArg (fun i => k0_pay7 (dot m false c (ch false c i)) (v m false i (up false c))) h6).trans (val_first m false c).symm)) $$ HC0
    ihave HC1 := (as_val c ((congrArg (fun i => k0_pay7 (dot m true c (ch true c i)) (v m true i (up true c))) h6).trans (val_first m true c).symm)) $$ HC1
    iapply (copies2 m c 0 (by omega) ((k0_off5_eq c k).trans (by rw [h6]; rfl)) ((k0_off6_eq c k).trans (by rw [h6]; rfl))) $$ [HC0 HC1 Hout Hv0 Hv1]
    · isplitl [HC0]; · iexact HC0
      isplitl [HC1]; · iexact HC1
      isplitl [Hout]; · iexact Hout
      isplitl [Hv0] <;> iassumption
    iintro Hout
    iapply (wp_done c)
    isplitr; · iexact HR
    isplitr; · iexact Hl
    isplitl [HO]; · iexact HO
    isplitl [H0 HS0]
    · isplitl [H0] <;> iassumption
    isplitl [H1 HS1]
    · isplitl [H1] <;> iassumption
    isplitl [HX0]; · iexact HX0
    isplitl [HX1]; · iexact HX1
    isplitl [HB0]; · iexact HB0
    isplitl [HB1]; · iexact HB1
    isplitl [HW]; · iexact HW
    iapply (Entails.of_eq (congrArg (outAt m c) (show 7 + 0 = k.val + 1 by omega))) $$ Hout
  · rw [dif_neg (fun h => h6 ((cond5 k hk).1 h)), outAt_lo m c (k := k + 1) (by omega)]
    iapply (wp_done c)
    isplitr; · iexact HR
    isplitr; · iexact Hl
    isplitl [HO]; · iexact HO
    isplitl [H0 HS0]
    · isplitl [H0] <;> iassumption
    isplitl [H1 HS1]
    · isplitl [H1] <;> iassumption
    isplitl [HX0]; · iexact HX0
    isplitl [HX1]; · iexact HX1
    isplitl [HB0]; · iexact HB0
    isplitl [HB1]; · iexact HB1
    isplitl [HW]; · iexact HW
    isplitl [HC0]; · iapply (forget c _ _) $$ HC0
    isplitl [HC1]; · iapply (forget c _ _) $$ HC1
    isplitl [Hout]; · iexact Hout
    isplitl [Hv0] <;> iassumption

set_option maxHeartbeats 2000000 in
/-- A trip of the second phase. -/
theorem trip_hi (k : Trip) (n : ℕ) (hn : k.val = 7 + n) (v2 v5 v7 : BitVec 32) :
    inv m c k ⊢ WP c (k0_t1_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 c v2 v5 v7 k ⟨⟩) (fun _ => inv m c (k + 1)) := by
  have hk' : k.val < 14 := k.isLt.trans_eq trips_eq
  have h6 : k0_cond6 k = 1#1 := (cond6 k).2 (by omega)
  unfold inv
  rw [outAt_hi' m c hn]
  unfold k0_t1_body
  cases hs : swp k.val
  · simp only [dif_pos ((cond2 k).2 hs), dif_neg (fun h => Bool.false_ne_true (hs.symm.trans ((cond3 k).1 h))), dif_neg (fun h => absurd ((cond4 k).1 h) (by omega)), dif_pos h6,
      semSignalWord, semWaitWord, Prog.lift, Prog.bind_op, Prog.bind_ret, Prog.pure_eq_ret, Prog.bind_assoc]
    iintro ⟨#HR, #Hl, HO, H0, H1, HX0, HX1, HB0, HB1, HW, HF0, HF1, Hrest⟩
    iapply (credits2 m c k) $$ [HO H0 H1]
    · isplitr; · iexact HR
      isplitr; · iexact Hl
      isplitl [HO]; · iexact HO
      isplitl [H0] <;> iassumption
    iintro ⟨HO, H0, H1⟩
    iapply (sends2 m c k hk' _ _ (Fin.ext (k0_dev3_eq c)) (Fin.ext (k0_dev4_eq c)) (src_false hs).symm (dst_false hs).symm (src_false hs).symm (dst_false hs).symm) $$ [HO H0 H1]
    · isplitr; · iexact HR
      isplitl [HO]; · iexact HO
      isplitl [H0] <;> iassumption
    iintro ⟨HO, H0, H1⟩
    iapply (wp_seq c)
    iapply (part4 m c k n hn v2 v5 v7 h6) $$ [HO H0 H1 HF0 HF1 Hrest]
    · isplitr; · iexact HR
      isplitr; · iexact Hl
      isplitl [HO]; · iexact HO
      isplitl [H0]; · iexact H0
      isplitl [H1]; · iexact H1
      isplitl [HF0]; · iexact HF0
      isplitl [HF1] <;> iassumption
    iintro %a ⟨HO, H0, H1, HC0, HC1, Hout, Hv0, Hv1⟩
    obtain ⟨a0, a1⟩ := a
    iapply (copies2 m c (n + 1) (by omega) ((k0_off7_eq c k).trans (by rw [hn, jn, show 6 + (n + 1) = 7 + n by omega]; rfl))
      ((off8 c k (by omega)).trans (by rw [hn, jn, show 6 + (n + 1) = 7 + n by omega]; rfl))) $$ [HC0 HC1 Hout Hv0 Hv1]
    · isplitl [HC0]; · iexact HC0
      isplitl [HC1]; · iexact HC1
      isplitl [Hout]; · iexact Hout
      isplitl [Hv0] <;> iassumption
    iintro Hout
    iapply (wp_done c)
    isplitr; · iexact HR
    isplitr; · iexact Hl
    isplitl [HO]; · iexact HO
    isplitl [H0]; · iexact H0
    isplitl [H1]; · iexact H1
    isplitl [HX0]; · iexact HX0
    isplitl [HX1]; · iexact HX1
    isplitl [HB0]; · iexact HB0
    isplitl [HB1]; · iexact HB1
    isplitl [HW]; · iexact HW
    iapply (Entails.of_eq (congrArg (outAt m c) (show 7 + (n + 1) = k.val + 1 by omega))) $$ Hout
  · simp only [dif_neg (fun h => Bool.false_ne_true (((cond2 k).1 h).symm.trans hs)), dif_pos ((cond3 k).2 hs), dif_neg (fun h => absurd ((cond4 k).1 h) (by omega)), dif_pos h6,
      semSignalWord, semWaitWord, Prog.lift, Prog.bind_op, Prog.bind_ret, Prog.pure_eq_ret, Prog.bind_assoc]
    iintro ⟨#HR, #Hl, HO, H0, H1, HX0, HX1, HB0, HB1, HW, HF0, HF1, Hrest⟩
    iapply (credits2 m c k) $$ [HO H0 H1]
    · isplitr; · iexact HR
      isplitr; · iexact Hl
      isplitl [HO]; · iexact HO
      isplitl [H0] <;> iassumption
    iintro ⟨HO, H0, H1⟩
    iapply (sends2 m c k hk' _ _ (Fin.ext (k0_dev5_eq c)) (Fin.ext (k0_dev6_eq c)) (src_true hs).symm (dst_true hs).symm (src_true hs).symm (dst_true hs).symm) $$ [HO H0 H1]
    · isplitr; · iexact HR
      isplitl [HO]; · iexact HO
      isplitl [H0] <;> iassumption
    iintro ⟨HO, H0, H1⟩
    iapply (wp_seq c)
    iapply (part4 m c k n hn v2 v5 v7 h6) $$ [HO H0 H1 HF0 HF1 Hrest]
    · isplitr; · iexact HR
      isplitr; · iexact Hl
      isplitl [HO]; · iexact HO
      isplitl [H0]; · iexact H0
      isplitl [H1]; · iexact H1
      isplitl [HF0]; · iexact HF0
      isplitl [HF1] <;> iassumption
    iintro %a ⟨HO, H0, H1, HC0, HC1, Hout, Hv0, Hv1⟩
    obtain ⟨a0, a1⟩ := a
    iapply (copies2 m c (n + 1) (by omega) ((k0_off7_eq c k).trans (by rw [hn, jn, show 6 + (n + 1) = 7 + n by omega]; rfl))
      ((off8 c k (by omega)).trans (by rw [hn, jn, show 6 + (n + 1) = 7 + n by omega]; rfl))) $$ [HC0 HC1 Hout Hv0 Hv1]
    · isplitl [HC0]; · iexact HC0
      isplitl [HC1]; · iexact HC1
      isplitl [Hout]; · iexact Hout
      isplitl [Hv0] <;> iassumption
    iintro Hout
    iapply (wp_done c)
    isplitr; · iexact HR
    isplitr; · iexact Hl
    isplitl [HO]; · iexact HO
    isplitl [H0]; · iexact H0
    isplitl [H1]; · iexact H1
    isplitl [HX0]; · iexact HX0
    isplitl [HX1]; · iexact HX1
    isplitl [HB0]; · iexact HB0
    isplitl [HB1]; · iexact HB1
    isplitl [HW]; · iexact HW
    iapply (Entails.of_eq (congrArg (outAt m c) (show 7 + (n + 1) = k.val + 1 by omega))) $$ Hout

/-- The loop. -/
theorem loop {α : Type} {Q : Post F α} {kk : Unit → Prog (TpuEff nD τ sig (Elt F) Λ₀ .tc) α} (v2 v5 v7 : BitVec 32) :
    inv m c 0 ⊢ iprop((inv m c 14 -∗ WP c (kk ⟨⟩) Q)
        -∗ WP c (Scf.Loop.for k0_t1_loop k0_t1_ok ⟨⟩ (k0_t1_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 c v2 v5 v7) >>= kk) Q) := by
  iintro H Hk
  iapply (Scf.wp_for_bind frame (wpE (defs₀ (F := F)) 𝒱₀ (c : Thread nD τ) none) Set.univ k0_t1_loop.lb k0_t1_loop.ub k0_t1_loop.st k0_t1_ok ⟨⟩
    (k0_t1_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 c v2 v5 v7) (fun k _ => inv m c k) (fun k _ => by
      by_cases hk : k.val < 7
      · exact trip_lo m c k hk v2 v5 v7
      · exact trip_hi m c k (k.val - 7) (by omega) v2 v5 v7)) $$ H
  iintro %a H
  iapply Hk
  iapply (Entails.of_eq (congrArg (inv m c) trips_eq)) $$ H

set_option maxHeartbeats 2000000 in
/-- The first partial products, and the loop. -/
theorem part8 {Q : Post F PUnit} (v2 v5 v7 : BitVec 32) :
    iprop(records m ∗ levAts L lv ∗ ow c (owed c 0) ∗ (stA (F := F) false c 0 ∗ slotPay (F := F) false c 0) ∗ (stA (F := F) true c 0 ∗ slotPay (F := F) true c 0)
        ∗ xRest m false c ∗ xRest m true c
        ∗ ownF c (xbs false) (k0_pay1 (xblk1 m false c c)) ∗ ownF c (xbs true) (k0_pay1 (xblk1 m true c c)) ∗ ownF c A3 (wbf m c)
        ∗ ownE (F := F) c (srcM false 0) ∗ ownE (F := F) c (srcM true 0) ∗ outAt m c 0)
      ⊢ iprop((inv m c 14 -∗ Q ⟨⟩)
          -∗ WP c (k0_part8 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 c v2 v5 v7) Q) := by
  rw [k0_part8_eq_skeleton]
  unfold k0_part8_skel
  simp only [Prog.lift, Prog.bind_op, Prog.bind_ret, Prog.pure_eq_ret, Prog.bind_assoc]
  rw [outAt_lo m c (k := 0) (by omega)]
  iintro ⟨#HR, #Hl, HO, H0, H1, HX0, HX1, HB0, HB1, HW, HS0, HS1, HC0, HC1, Hout, Hv0, Hv1⟩ Hk
  ihave HS0 := (as_eqE c (rfl : srcM false 0 = Memref.whole cc0_scratch5)) $$ HS0
  ihave HS1 := (as_eqE c (rfl : srcM true 0 = Memref.whole cc0_scratch6)) $$ HS1
  iapply (wp_load_slice c _ fullShare _) $$ HB0
  iintro HB0
  iapply (wp_load_all c zero2 fullShare _) $$ HW
  iintro HW
  iapply (wp_peek c _) $$ HC0
  iintro %Z0 HC0
  iapply (wp_store_slice c _) $$ HC0
  iintro HC0
  iapply (wp_load_slice c _ fullShare _) $$ HB1
  iintro HB1
  iapply (wp_load_all c zero2 fullShare _) $$ HW
  iintro HW
  iapply (wp_peek c _) $$ HC1
  iintro %Z1 HC1
  iapply (wp_store_slice c _) $$ HC1
  iintro HC1
  iapply (wp_load_slice c _ fullShare _) $$ HC0
  iintro HC0
  iapply (wp_peek_all c zero2) $$ HS0
  iintro %Y0 HS0
  iapply (wp_store_all c zero2) $$ HS0
  iintro HS0
  iapply (wp_load_slice c _ fullShare _) $$ HC1
  iintro HC1
  iapply (wp_peek_all c zero2) $$ HS1
  iintro %Y1 HS1
  iapply (wp_store_all c zero2) $$ HS1
  iintro HS1
  iapply (loop m c v2 v5 v7) $$ [HO H0 H1 HX0 HX1 HB0 HB1 HW HS0 HS1 HC0 HC1 Hout Hv0 Hv1]
  · unfold inv
    rw [ringAt_zero, ringAt_zero, outAt_lo m c (k := 0) (by omega)]
    isplitr; · iexact HR
    isplitr; · iexact Hl
    isplitl [HO]; · iexact HO
    isplitl [H0 HS0]
    · icases H0 with ⟨H0, H0'⟩
      isplitl [H0]; · iexact H0
      isplitl [H0']; · iexact H0'
      iexact HS0
    isplitl [H1 HS1]
    · icases H1 with ⟨H1, H1'⟩
      isplitl [H1]; · iexact H1
      isplitl [H1']; · iexact H1'
      iexact HS1
    isplitl [HX0]; · iexact HX0
    isplitl [HX1]; · iexact HX1
    isplitl [HB0]; · iapply (forget c _ _) $$ HB0
    isplitl [HB1]; · iapply (forget c _ _) $$ HB1
    isplitl [HW]; · iexact HW
    isplitl [HC0]; · iapply (forget c _ _) $$ HC0
    isplitl [HC1]; · iapply (forget c _ _) $$ HC1
    isplitl [Hout]; · iexact Hout
    isplitl [Hv0] <;> iassumption
  iintro H
  iapply (wp_done c)
  iapply Hk $$ H

end Cert.Rings

end

end
-- ==== Proof.Body.lean ====
module

public import proofs.«01_k».proof.Proof.Loop

/-! # The whole body

From what a device starts with to what it ends with. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

/-- What device `c` needs for the barrier. -/
abbrev barPre : sProp 𝕄 :=
  iprop(cred (tallyAt (barC c) 1 2) ∗ atPos ER (barC c) 0 ∅ 0
    ∗ dutyTok ER (barC (up false c)) 0 false ∗ dutyTok ER (barC (up true c)) 0 true)

/-- The weight's staging. -/
abbrev wRest : sProp 𝕄 :=
  iprop(wHold m c ∗ ownE (F := F) c A4 ∗ semVal ((c : Thread nD τ), .dma wD) 0)

/-- What device `c` starts the body with. -/
abbrev bodyPre : sProp 𝕄 :=
  iprop(records m ∗ levAts L lv ∗ ow c (owed₀ c) ∗ barPre (F := F) c ∗ stA (F := F) false c 0 ∗ stA (F := F) true c 0
    ∗ xRest m false c ∗ xRest m true c ∗ wRest m c
    ∗ (ownE (F := F) c (wbs 0) ∗ ownE (F := F) c (wbs 1) ∗ ownE (F := F) c (wbs 2) ∗ ownE (F := F) c (wbs 3))
    ∗ (ownE (F := F) c (xbs false) ∗ ownE (F := F) c (xbs true)) ∗ (ownE (F := F) c (acc false) ∗ ownE (F := F) c (acc true))
    ∗ (ownE (F := F) c (srcM false 0) ∗ ownE (F := F) c (srcM true 0)) ∗ (ownE (F := F) c (dstM false 0) ∗ ownE (F := F) c (dstM true 0))
    ∗ outHold m c 0 ∗ semVal ((c : Thread nD τ), .dma (outD false)) 0 ∗ semVal ((c : Thread nD τ), .dma (outD true)) 0)

/-- What device `c` ends the body with. -/
abbrev bodyPost : sProp 𝕄 :=
  iprop(records m ∗ ow c 0 ∗ atPos ER (barC c) 1 ∅ 0 ∗ ringEnd (F := F) false c ∗ ringEnd (F := F) true c
    ∗ xRest m false c ∗ xRest m true c ∗ wRest m c ∗ ownE (F := F) c A3
    ∗ (ownE (F := F) c (xbs false) ∗ ownE (F := F) c (xbs true)) ∗ (ownE (F := F) c (acc false) ∗ ownE (F := F) c (acc true))
    ∗ outHold m c 8 ∗ semVal ((c : Thread nD τ), .dma (outD false)) 0 ∗ semVal ((c : Thread nD τ), .dma (outD true)) 0)

set_option maxHeartbeats 2000000 in
/-- The body. -/
theorem body {Q : Post F PUnit} :
    bodyPre m c ⊢ iprop((bodyPost m c -∗ Q ⟨⟩) -∗ WP c (cc0_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18) Q) := by
  simp only [cc0_body_eq_skeleton]
  unfold cc0_body_skel
  simp only [Prog.lift, Prog.bind_op, Prog.bind_ret, Prog.pure_eq_ret, Prog.bind_assoc]
  iintro ⟨#HR, #Hl, HO, ⟨Hcb, Hab, Ht0, Ht1⟩, H0, H1, ⟨HX0, HS0, Hv0⟩, ⟨HX1, HS1, Hv1⟩, ⟨HW, HA, Hvw⟩, ⟨HQ0, HQ1, HQ2, HQ3⟩, ⟨HB0, HB1⟩, ⟨HC0, HC1⟩,
    ⟨HM0, HM1⟩, ⟨HD0, HD1⟩, Hout, Hvo0, Hvo1⟩ Hk
  iapply (wp_seq c)
  iapply (part5 m c) $$ [HO Hcb Hab Ht0 Ht1 HD0 HD1 HX0 HS0 Hv0 HX1 HS1 Hv1]
  · isplitr; · iexact HR
    isplitr; · iexact Hl
    isplitl [HO]; · iexact HO
    isplitl [Hcb]; · iexact Hcb
    isplitl [Hab]; · iexact Hab
    isplitl [Ht0]; · iexact Ht0
    isplitl [Ht1]; · iexact Ht1
    isplitl [HD0]; · iexact HD0
    isplitl [HD1]; · iexact HD1
    isplitl [HX0 HS0 Hv0]
    · isplitl [HX0]; · iexact HX0
      isplitl [HS0] <;> iassumption
    isplitl [HX1]; · iexact HX1
    isplitl [HS1] <;> iassumption
  iintro %v2 %v5 %v7 ⟨HO, Hab, HP0, HP1, HX0, HX1⟩
  have h1 : Above 1 (owed c 0) := (above_owed c 0).mono (by omega)
  iapply (wp_seq c)
  iapply (part6 m c (owed c 0) h1) $$ [HO HW HA Hvw HQ0 HQ1 HQ2]
  · isplitr; · iexact Hl
    isplitl [HO]; · iexact HO
    isplitl [HW]; · iexact HW
    isplitl [HA]; · iexact HA
    isplitl [Hvw]; · iexact Hvw
    isplitl [HQ0]; · iexact HQ0
    isplitl [HQ1] <;> iassumption
  iintro ⟨HO, HW, HQ0, HQ1, HQ2⟩
  iapply (wp_seq c)
  iapply (part7 m c (owed c 0) h1) $$ [HO HW HQ3 HX0 HX1 HB0 HB1]
  · isplitr; · iexact Hl
    isplitl [HO]; · iexact HO
    isplitl [HW]; · iexact HW
    isplitl [HQ3]; · iexact HQ3
    isplitl [HX0]; · iexact HX0
    isplitl [HX1]; · iexact HX1
    isplitl [HB0] <;> iassumption
  iintro ⟨HO, HW, HA, Hvw, HQ3, HX0, HX1, HB0, HB1⟩
  ihave HQ := (wb_join m c) $$ [HQ0 HQ1 HQ2 HQ3]
  · isplitl [HQ0]; · iexact HQ0
    isplitl [HQ1]; · iexact HQ1
    isplitl [HQ2] <;> iassumption
  iapply (wp_seq c)
  iapply (part8 m c v2 v5 v7) $$ [HO H0 H1 HP0 HP1 HX0 HX1 HB0 HB1 HQ HM0 HM1 HC0 HC1 Hout Hvo0 Hvo1]
  · rw [outAt_lo m c (k := 0) (by omega)]
    isplitr; · iexact HR
    isplitr; · iexact Hl
    isplitl [HO]; · iexact HO
    isplitl [H0 HP0]
    · isplitl [H0] <;> iassumption
    isplitl [H1 HP1]
    · isplitl [H1] <;> iassumption
    isplitl [HX0]; · iexact HX0
    isplitl [HX1]; · iexact HX1
    isplitl [HB0]; · iexact HB0
    isplitl [HB1]; · iexact HB1
    isplitl [HQ]; · iexact HQ
    isplitl [HM0]; · iexact HM0
    isplitl [HM1]; · iexact HM1
    isplitl [HC0]; · iexact HC0
    isplitl [HC1]; · iexact HC1
    isplitl [Hout]; · iexact Hout
    isplitl [Hvo0] <;> iassumption
  unfold inv
  rw [ringAt_end, ringAt_end, outAt_hi m c 7, owed_end]
  iintro ⟨_, _, HO, H0, H1, HX0, HX1, HB0, HB1, HQ, HF0, HF1, Hrest⟩
  iapply (wp_owait m c false 7 rfl (by rfl) 0 (Above.zero 1)) $$ [HO HF0]
  · isplitr; · iexact Hl
    isplitl [HO] <;> iassumption
  iintro ⟨HO, HW0, HC0, Hvo0⟩
  iapply (wp_owait m c true 7 rfl (by rfl) 0 (Above.zero 1)) $$ [HO HF1]
  · isplitr; · iexact Hl
    isplitl [HO] <;> iassumption
  iintro ⟨HO, HW1, HC1, Hvo1⟩
  ihave Hout := (out_put m c 7 (by omega)) $$ [HW0 HW1 Hrest]
  · isplitl [HW0]; · iexact HW0
    isplitl [HW1] <;> iassumption
  iapply (wp_done c)
  iapply Hk
  isplitr; · iexact HR
  isplitl [HO]; · iexact HO
  isplitl [Hab]; · iexact Hab
  isplitl [H0]; · iexact H0
  isplitl [H1]; · iexact H1
  isplitl [HX0]; · iexact HX0
  isplitl [HX1]; · iexact HX1
  isplitl [HW HA Hvw]
  · isplitl [HW]; · iexact HW
    isplitl [HA] <;> iassumption
  isplitl [HQ]; · iapply (forget c _ _) $$ HQ
  isplitl [HB0 HB1]
  · isplitl [HB0] <;> iassumption
  isplitl [HC0 HC1]
  · isplitl [HC0]; · iapply (forget c _ _) $$ HC0
    iapply (forget c _ _) $$ HC1
  isplitl [Hout]; · iexact Hout
  isplitl [Hvo0] <;> iassumption

end Cert.Rings

end

end
-- ==== Proof.Ghost.lean ====
module

public import proofs.«01_k».proof.Proof.Body

/-! # What the launch deals

The cells and duties of every device, the invariants over them, and each duty handed to the device that pays it. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ)

/-! ## The cells and the duties -/

/-- The semaphore of a ring cell. -/
def kS (k : Fin 7) : SemLoc sig :=
  match k with
  | ⟨0, _⟩ => barS
  | ⟨1, _⟩ => sndS false
  | ⟨2, _⟩ => sndS true
  | ⟨3, _⟩ => rcvS false
  | ⟨4, _⟩ => rcvS true
  | ⟨5, _⟩ => crdS false
  | ⟨_, _⟩ => crdS true

theorem kS_inj : ∀ k k' : Fin 7, kS k = kS k' → k = k' := by decide

theorem kcell_eq (p : Dev nD × Fin 7) : kcell p = ((p.1 : Thread nD τ), kS p.2) := by
  obtain ⟨c, k⟩ := p
  fin_cases k <;> rfl

theorem kcell_injective : Function.Injective (kcell : Dev nD × Fin 7 → GSem nD τ sig) := by
  rintro ⟨c, k⟩ ⟨c', k'⟩ h
  rw [kcell_eq, kcell_eq] at h
  have h1 : c = c' := congrArg (fun g : GSem nD τ sig => g.1.1) h
  have h2 : k = k' := kS_inj k k' (congrArg Prod.snd h)
  rw [h1, h2]

/-- Every ring cell of every device. -/
def ringCells : Finset (GSem nD τ sig) := Finset.univ.map ⟨kcell, kcell_injective⟩

/-- The semaphore of kind `k` and direction `b`: barrier, departures, arrivals, credits. -/
def kindS (k : Fin 4) (b : Bool) : SemLoc sig :=
  match k with
  | 0 => barS | 1 => sndS b | 2 => rcvS b | 3 => crdS b
/-- The name of the duty: the barrier's are told apart by the direction. -/
def kindD (k : Fin 4) (b : Bool) : Bool := if k = 0 then b else false

/-- A duty of a device's own cells: kind, direction, round. -/
def tokOf (p : Dev nD × Fin 4 × Bool × Fin 14) : GSem nD τ sig × ℕ × Bool :=
  (((p.1 : Thread nD τ), kindS p.2.1 p.2.2.1), p.2.2.2.val, kindD p.2.1 p.2.2.1)

theorem kind_inj : ∀ (k k' : Fin 4) (b b' : Bool), kindS k b = kindS k' b' → kindD k b = kindD k' b' → k = k' ∧ b = b' := by decide

theorem tokOf_injective : Function.Injective tokOf := by
  rintro ⟨c, k, b, r⟩ ⟨c', k', b', r'⟩ h
  have hc : c = c' := congrArg (fun x : GSem nD τ sig × ℕ × Bool => x.1.1.1) h
  have hr : r = r' := Fin.ext (congrArg (fun x : GSem nD τ sig × ℕ × Bool => x.2.1) h)
  obtain ⟨hk, hb⟩ := kind_inj k k' b b' (congrArg (fun x : GSem nD τ sig × ℕ × Bool => x.1.2) h) (congrArg (fun x : GSem nD τ sig × ℕ × Bool => x.2.2) h)
  rw [hc, hr, hk, hb]

/-- Every duty that the launch mints. -/
def ringToks : Finset (GSem nD τ sig × ℕ × Bool) := Finset.univ.map ⟨tokOf, tokOf_injective⟩

/-- The launch element. -/
def u₀ : UU := (initOf (Pipeline.cells cfgs cellOf_inj) (Pipeline.launchToks cfgs cellOf_inj), (initOf ringCells ringToks, 1))

theorem ownU_parts (a : UR sig nD τ) (b : UB) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

theorem sep_bool (Φ : Bool → sProp 𝕄) : bigSep Finset.univ Φ = iprop(Φ false ∗ Φ true) :=
  bigSep_univ_eq_bigSepL [false, true] (by decide) (by decide) Φ
theorem sep_kind (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem ico_fin : Finset.Ico 0 14 = Finset.univ.map (Fin.valEmbedding (n := 14)) := by decide

theorem sep_rounds (Φ : ℕ → sProp 𝕄) : bigSep Finset.univ (fun r : Fin 14 => Φ r.val) = bigSep (Finset.Ico 0 14) Φ := by
  rw [ico_fin, bigSep_map]; rfl

/-- The duties of the departures of device `c`, and of its arrivals and credits. -/
abbrev ownS (b : Bool) (c : Dev nD) : sProp 𝕄 := bigSep (Finset.Ico 0 14) fun r => dutyTok ER (sndC b c) r false
abbrev ownR (b : Bool) (c : Dev nD) : sProp 𝕄 := bigSep (Finset.Ico 0 14) fun r => dutyTok ER (rcvC b c) r false
abbrev ownC (b : Bool) (c : Dev nD) : sProp 𝕄 := bigSep (Finset.Ico 0 14) fun r => dutyTok ER (crdC b c) r false
abbrev ownB (b : Bool) (c : Dev nD) : sProp 𝕄 := bigSep (Finset.Ico 0 14) fun r => dutyTok ER (barC c) r b

/-- The duties of a device's own cells. -/
def toks (c : Dev nD) : sProp 𝕄 :=
  iprop((ownB (F := F) false c ∗ ownB (F := F) true c) ∗ (ownS (F := F) false c ∗ ownS (F := F) true c)
    ∗ (ownR (F := F) false c ∗ ownR (F := F) true c) ∗ (ownC (F := F) false c ∗ ownC (F := F) true c))

theorem toks_eq (c : Dev nD) : bigSep Finset.univ (fun p : Fin 4 × Bool × Fin 14 => (dutyTok ER (tokOf (c, p)).1 (tokOf (c, p)).2.1 (tokOf (c, p)).2.2 : sProp 𝕄)) = toks c := by
  rw [bigSep_univ_prod]
  simp only [bigSep_univ_prod, sep_kind, sep_bool]
  unfold toks ownB ownS ownR ownC
  simp only [← sep_rounds]
  rfl

/-- What the launch element deals device `c`. -/
def G (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The scoped semaphores. -/
abbrev osem : Fin 11 → SemLoc sig :=
  ![sndS false, sndS true, rcvS false, rcvS true, crdS false, crdS true, .dma (xD false), .dma (xD true), .dma wD, .dma (outD false), .dma (outD true)]

theorem ownSemFacts : Pipeline.OwnSemFacts cfg0.spec osem := by decide

/-- The semaphores of the local copies, at zero. -/
abbrev locs (c : Dev nD) : sProp 𝕄 :=
  iprop(semVal ((c : Thread nD τ), .dma (xD false)) 0 ∗ semVal ((c : Thread nD τ), .dma (xD true)) 0 ∗ semVal ((c : Thread nD τ), .dma wD) 0
    ∗ semVal ((c : Thread nD τ), .dma (outD false)) 0 ∗ semVal ((c : Thread nD τ), .dma (outD true)) 0)

/-- The scoped semaphores are the ring's six and the five of the local copies. -/
theorem ownSems0_eq (c : Dev nD) : (Pipeline.ownSems0 (Ix := ℕ) (Name := ℕ) (U := UU) (Lvl := ℕ) (Val := Elt F) (τ := τ) osem c : sProp 𝕄)
    = iprop(semVal (sndC false c) 0 ∗ semVal (sndC true c) 0 ∗ semVal (rcvC false c) 0 ∗ semVal (rcvC true c) 0
      ∗ semVal (crdC false c) 0 ∗ semVal (crdC true c) 0 ∗ locs c) := by
  rw [Pipeline.ownSems0_eq_of_list c osem [0, 1, 2, 3, 4, 5, 6, 7, 8, 9, 10] (by decide) (by decide)]; rfl
/-- The barrier's is the one semaphore that is not scoped. -/
theorem unscopedSems0_eq (c : Dev nD) : (unscopedSems0 c : sProp 𝕄) = semVal (barC c) 0 := by
  unfold unscopedSems0; rw [bigSep_eq_bigSepL_of_eq [barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (iprop((bigSep Finset.univ fun k : Fin 7 => semVal (kcell (c, k)) 0) ∗ locs c) : sProp 𝕄) := by
  rw [ownSems0_eq, unscopedSems0_eq, sep_seven]
  iintro ⟨⟨H1, H2, H3, H4, H5, H6, HL⟩, HB⟩
  isplitr [HL]
  · isplitl [HB]; · iexact HB
    isplitl [H1]; · iexact H1
    isplitl [H2]; · iexact H2
    isplitl [H3]; · iexact H3
    isplitl [H4]; · iexact H4
    isplitl [H5]; · iexact H5
    iexact H6
  iexact HL

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locs c) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Dealing around the rings -/

/-- The step downstream in direction `b`. -/
def dnE (b : Bool) : Dev nD ≃ Dev nD := ⟨dn b, up b, up_dn b, dn_up b⟩

/-- The duties that device `c` pays. -/
def payToks (c : Dev nD) : sProp 𝕄 :=
  iprop((ownB (F := F) false (up false c) ∗ ownB (F := F) true (up true c)) ∗ (ownS (F := F) false c ∗ ownS (F := F) true c)
    ∗ (ownR (F := F) false (dn false c) ∗ ownR (F := F) true (dn true c)) ∗ (ownC (F := F) false (up false c) ∗ ownC (F := F) true (up true c)))

theorem toks_around : (bigSep Finset.univ fun c : Dev nD => (toks c : sProp 𝕄)) ⊢ bigSep Finset.univ fun c : Dev nD => payToks c := by
  unfold toks payToks
  simp only [bigSep_sep']
  rw [bigSep_univ_equiv (dnE false).symm (fun c : Dev nD => (ownB (F := F) false c : sProp 𝕄)),
    bigSep_univ_equiv (dnE true).symm (fun c : Dev nD => (ownB (F := F) true c : sProp 𝕄)),
    bigSep_univ_equiv (dnE false) (fun c : Dev nD => (ownR (F := F) false c : sProp 𝕄)),
    bigSep_univ_equiv (dnE true) (fun c : Dev nD => (ownR (F := F) true c : sProp 𝕄)),
    bigSep_univ_equiv (dnE false).symm (fun c : Dev nD => (ownC (F := F) false c : sProp 𝕄)),
    bigSep_univ_equiv (dnE true).symm (fun c : Dev nD => (ownC (F := F) true c : sProp 𝕄))]
  exact .rfl

/-- What the launch makes of it for device `c`: every cell's record, `c`'s positions, its duties and its copies' semaphores. -/
def G' (c : Dev nD) : sProp 𝕄 :=
  iprop(records m ∗ (bigSep Finset.univ fun k : Fin 7 => atPos ER (kcell (c, k)) 0 ∅ 0) ∗ payToks c ∗ locs c)

theorem with_persistent {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (by rw [← bigSep_sep'])

theorem records_intro :
    iprop((bigSep Finset.univ fun p : Dev nD × Fin 7 => iprop(∃ κ : ℕ, cellInv ER (Rd m) κ (kcell p)))
      ∗ (bigSep Finset.univ fun p : Dev nD × Fin 7 => reached ER (kcell p) 0)) ⊢ (records m : sProp 𝕄) := by
  unfold records
  rw [← bigSep_sep']
  refine bigSep_mono fun p _ => ?_
  show iprop((∃ κ : ℕ, cellInv ER (Rd m) κ (kcell p)) ∗ reached ER (kcell p) 0) ⊢ iprop(∃ κ : ℕ, cellInv ER (Rd m) κ (kcell p) ∗ reached ER (kcell p) 0)
  iintro ⟨⟨%κ, H⟩, H'⟩
  iexists κ
  isplitl [H] <;> iassumption

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locs c) : sProp 𝕄)
      ⊢ bigSep Finset.univ (G' m) := by
  rw [bigSep_sep', bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, HR⟩, Htok, HL⟩
  ihave HI := (records_intro m) $$ [HI HR]
  · isplitl [HI] <;> iassumption
  ihave Htk := (toks_around (F := F)) $$ Htok
  unfold G'
  iapply (with_persistent (R := records m))
  isplitl [HI]; · iexact HI
  simp only [bigSep_sep']
  isplitl [Hat]; · iexact Hat
  isplitl [Htk] <;> iassumption

/-- The step over all devices' semaphores at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Rings

end

end
-- ==== Proof.Credit.lean ====
module

public import proofs.«01_k».proof.Proof.Body

/-! # The launch's credit

What all devices owe one cell is what that cell's device may receive. -/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## What the devices owe one cell -/

section Owed
variable (c d : Dev nD) (ι : ℕ)

theorem cell_eq_iff {a b : Dev nD} (s s' : SemLoc sig) :
    ((((a : Thread nD τ), s) : GSem nD τ sig) = ((b : Thread nD τ), s')) ↔ (a = b ∧ s = s') :=
  ⟨fun h => ⟨congrArg (fun g : GSem nD τ sig => g.1.1) h, congrArg Prod.snd h⟩, fun h => by rw [h.1, h.2]⟩

theorem at_cell (s s' : SemLoc sig) (e : Dev nD) (ι' n : ℕ) :
    tallyAt (((e : Thread nD τ), s') : GSem nD τ sig) ι' n ((c : Thread nD τ), s) ι = if (c = e ∧ s = s') ∧ ι = ι' then n else 0 := by
  rw [tallyAt_apply]
  simp only [cell_eq_iff]

theorem up_iff : ∀ (b : Bool) (c d : Dev nD), (c = up b d) ↔ (d = dn b c) := by decide
theorem dn_iff : ∀ (b : Bool) (c d : Dev nD), (c = dn b d) ↔ (d = up b c) := by decide

theorem bar_ne_snd : ∀ b, barS ≠ sndS b := by decide
theorem bar_ne_rcv : ∀ b, barS ≠ rcvS b := by decide
theorem bar_ne_crd : ∀ b, barS ≠ crdS b := by decide
theorem rcv_ne_bar : ∀ b, rcvS b ≠ barS := by decide
theorem crd_ne_bar : ∀ b, crdS b ≠ barS := by decide
theorem rcv_ne_crd : ∀ b b', rcvS b ≠ crdS b' := by decide
theorem crd_ne_rcv : ∀ b b', crdS b ≠ rcvS b' := by decide
theorem rcv_inj : ∀ b b', (rcvS b = rcvS b') ↔ (b = b') := by decide
theorem crd_inj : ∀ b b', (crdS b = crdS b') ↔ (b = b') := by decide

theorem owed_apply (g : GSem nD τ sig) : owed₀ d g ι = (∑ r ∈ Finset.Ico 0 14, (crdDue true d r g ι + crdDue false d r g ι + rcvDue true d r g ι + rcvDue false d r g ι))
    + barDue true d g ι + barDue false d g ι := by
  unfold owed₀ owed hopDue
  simp only [Pi.add_apply, Finsupp.add_apply, Finset.sum_apply, Finsupp.finset_sum_apply]

theorem rcvDue_at (b : Bool) (k : ℕ) (s : SemLoc sig) : rcvDue b d k ((c : Thread nD τ), s) ι = if s = rcvS b ∧ d = up b c ∧ ι = 2 * k + 2 then NN else 0 := by
  unfold rcvDue
  rw [at_cell]
  refine if_congr ?_ rfl rfl
  rw [dn_iff]; tauto

theorem crdDue_at (b : Bool) (k : ℕ) (s : SemLoc sig) :
    crdDue b d k ((c : Thread nD τ), s) ι = if s = crdS b ∧ d = dn b c ∧ ι = 2 * k + 3 ∧ k < 13 then 1 else 0 := by
  unfold crdDue
  by_cases hk : k < 13
  · rw [if_pos hk, at_cell]
    refine if_congr ?_ rfl rfl
    rw [up_iff]; tauto
  · rw [if_neg hk, if_neg (by tauto)]; rfl

theorem barDue_at (b : Bool) (s : SemLoc sig) : barDue b d ((c : Thread nD τ), s) ι = if s = barS ∧ d = dn b c ∧ ι = 1 then 1 else 0 := by
  unfold barDue
  rw [at_cell]
  refine if_congr ?_ rfl rfl
  rw [up_iff]; tauto

/-- What `d` owes to `c`'s barrier. -/
theorem owed_bar : owed₀ d (barC c) ι = (if d = dn true c then (if ι = 1 then 1 else 0) else 0) + (if d = dn false c then (if ι = 1 then 1 else 0) else 0) := by
  rw [owed_apply]
  simp only [rcvDue_at, crdDue_at, barDue_at, bar_ne_rcv, bar_ne_crd, _root_.false_and, if_false, add_zero, Finset.sum_const_zero, zero_add, _root_.true_and, ite_and]

/-- What `d` owes to `c`'s arrivals. -/
theorem owed_rcv (b : Bool) : owed₀ d (rcvC b c) ι = if d = up b c then (∑ r ∈ Finset.Ico 0 14, if ι = 2 * r + 2 then NN else 0) else 0 := by
  rw [owed_apply]
  cases b
  · simp only [rcvDue_at, crdDue_at, barDue_at, rcv_ne_bar, rcv_ne_crd, rcv_inj, Bool.false_eq_true, Bool.true_eq_false, _root_.false_and, if_false, add_zero, zero_add, _root_.true_and, ite_and]
    by_cases h : d = up false c <;> simp [h]
  · simp only [rcvDue_at, crdDue_at, barDue_at, rcv_ne_bar, rcv_ne_crd, rcv_inj, Bool.false_eq_true, Bool.true_eq_false, _root_.false_and, if_false, add_zero, zero_add, _root_.true_and, ite_and]
    by_cases h : d = up true c <;> simp [h]

/-- What `d` owes to `c`'s credits. -/
theorem owed_crd (b : Bool) : owed₀ d (crdC b c) ι = if d = dn b c then (∑ r ∈ Finset.Ico 0 13, if ι = 2 * r + 3 then 1 else 0) else 0 := by
  have hs : (∑ r ∈ Finset.Ico 0 14, if ι = 2 * r + 3 ∧ r < 13 then 1 else 0) = ∑ r ∈ Finset.Ico 0 13, if ι = 2 * r + 3 then 1 else 0 := by
    rw [show Finset.Ico 0 14 = insert 13 (Finset.Ico 0 13) by decide, Finset.sum_insert (by decide), if_neg (by omega), zero_add]
    refine Finset.sum_congr rfl fun r hr => if_congr ?_ rfl rfl
    have := (Finset.mem_Ico.mp hr).2
    tauto
  rw [owed_apply, ← hs]
  cases b
  · simp only [rcvDue_at, crdDue_at, barDue_at, crd_ne_bar, crd_ne_rcv, crd_inj, Bool.false_eq_true, Bool.true_eq_false, _root_.false_and, if_false, add_zero, zero_add, _root_.true_and]
    by_cases h : d = dn false c <;> simp [h]
  · simp only [rcvDue_at, crdDue_at, barDue_at, crd_ne_bar, crd_ne_rcv, crd_inj, Bool.false_eq_true, Bool.true_eq_false, _root_.false_and, if_false, add_zero, zero_add, _root_.true_and]
    by_cases h : d = dn true c <;> simp [h]

end Owed

/-! ## The launch's credit -/

/-- A cell's launch credit, once every index's total is known. -/
theorem launch_at (g : GSem nD τ sig) (T : CellTallies nD τ sig ℕ) (hT : ∀ g', g' ≠ g → T g' = 0) (h : ∀ ι, ∑ d : Dev nD, owed₀ d g ι = T g ι) :
    tallyOn g (launchCredit (Pipeline.owing owed₀) 0 g) = T := by
  have h1 : launchCredit (Pipeline.owing owed₀) 0 g = T g := Finsupp.ext fun ι => by rw [Pipeline.launchCredit_owing]; exact h ι
  rw [h1]
  funext g'
  by_cases hg : g' = g
  · subst hg; exact tallyOn_self _ _
  · rw [tallyOn_ne hg, hT g' hg]

theorem launch_bar (c : Dev nD) : tallyOn (barC c) (launchCredit (Pipeline.owing owed₀) 0 (barC c)) = tallyAt (barC c) 1 2 := by
  refine launch_at _ _ (fun g' hg => tallyAt_ne_cell hg _ _) fun ι => ?_
  rw [Finset.sum_congr rfl fun d _ => owed_bar c d ι, Finset.sum_add_distrib, Finset.sum_ite_eq' Finset.univ (dn true c) fun _ => _,
    Finset.sum_ite_eq' Finset.univ (dn false c) fun _ => _, if_pos (Finset.mem_univ _), if_pos (Finset.mem_univ _), tallyAt_apply]
  by_cases h : ι = 1 <;> simp [h]

theorem launch_rcv (b : Bool) (c : Dev nD) :
    tallyOn (rcvC b c) (launchCredit (Pipeline.owing owed₀) 0 (rcvC b c)) = ∑ r ∈ Finset.Ico 0 14, tallyAt (rcvC b c) (2 * r + 2) NN := by
  refine launch_at _ _ (fun g' hg => ?_) fun ι => ?_
  · rw [Finset.sum_apply]; exact Finset.sum_eq_zero fun r _ => tallyAt_ne_cell hg _ _
  · rw [Finset.sum_congr rfl fun d _ => owed_rcv c d ι b, Finset.sum_ite_eq' Finset.univ (up b c) fun _ => _, if_pos (Finset.mem_univ _),
      Finset.sum_apply, Finsupp.finset_sum_apply]
    refine Finset.sum_congr rfl fun r _ => ?_
    rw [tallyAt_apply]
    exact if_congr ⟨fun h => ⟨rfl, h⟩, fun h => h.2⟩ rfl rfl

theorem launch_crd (b : Bool) (c : Dev nD) :
    tallyOn (crdC b c) (launchCredit (Pipeline.owing owed₀) 0 (crdC b c)) = ∑ r ∈ Finset.Ico 0 13, tallyAt (crdC b c) (2 * r + 3) 1 := by
  refine launch_at _ _ (fun g' hg => ?_) fun ι => ?_
  · rw [Finset.sum_apply]; exact Finset.sum_eq_zero fun r _ => tallyAt_ne_cell hg _ _
  · rw [Finset.sum_congr rfl fun d _ => owed_crd c d ι b, Finset.sum_ite_eq' Finset.univ (dn b c) fun _ => _, if_pos (Finset.mem_univ _),
      Finset.sum_apply, Finsupp.finset_sum_apply]
    refine Finset.sum_congr rfl fun r _ => ?_
    rw [tallyAt_apply]
    exact if_congr ⟨fun h => ⟨rfl, h⟩, fun h => h.2⟩ rfl rfl

/-- What device `c` may receive, from the launch's credit. -/
theorem creds (c : Dev nD) :
    (Pipeline.launchCred owed₀ c : sProp 𝕄) ⊢ iprop(cred (tallyAt (barC c) 1 2) ∗ crR (F := F) false c 0 ∗ crR (F := F) true c 0
      ∗ crC (F := F) false c 0 ∗ crC (F := F) true c 0) := by
  unfold Pipeline.launchCred crR crC
  refine (bigSep_subset (t := {barS, rcvS false, rcvS true, crdS false, crdS true}) (Finset.subset_univ _)).trans ?_
  rw [bigSep_insert (by decide), bigSep_insert (by decide), bigSep_insert (by decide), bigSep_insert (by decide), bigSep_singleton,
    launch_bar, launch_rcv, launch_rcv, launch_crd, launch_crd]
  exact BI.Entails.refl _

end Cert.Rings

end

end
-- ==== Proof.Ends.lean ====
module

public import proofs.«01_k».proof.Proof.Ghost
public import proofs.«01_k».proof.Proof.Credit

/-! # Into and out of the body

What a device enters the kernel with is what its body starts with; what the body ends with, the ring cells closed, is what
the device leaves with.
-/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## The buffers -/

theorem own_of (b : Ref sig .tc) : (iprop(∃ f : Buf (Elt F) ((c : Thread nD τ).loc b), ((c : Thread nD τ).loc b) ↦{fullShare} f) : sProp 𝕄)
    ⊢ iprop(∃ X, owns (c : Thread nD τ) (Memref.whole b) fullShare X) := by
  iintro ⟨%f, H⟩
  iexists f
  iapply (Entails.of_eq (owns_whole (c : Thread nD τ) b fullShare f).symm)
  iexact H

theorem of_own (b : Ref sig .tc) : (iprop(∃ X, owns (c : Thread nD τ) (Memref.whole b) fullShare X) : sProp 𝕄)
    ⊢ iprop(∃ f : Buf (Elt F) ((c : Thread nD τ).loc b), ((c : Thread nD τ).loc b) ↦{fullShare} f) := by
  iintro ⟨%f, H⟩
  iexists f
  iapply (Entails.of_eq (owns_whole (c : Thread nD τ) b fullShare f))
  iexact H

/-- Each direction reads `x` at half of the whole share. -/
theorem x_shares : ((((c : Thread nD τ).loc main_arg0) ↦{fullShare} xIn m c : sProp 𝕄)) ⊢ iprop(xHold m false c ∗ xHold m true c) := by
  unfold xHold shr
  rw [(Memref.isWhole_whole main_arg0).set_eq_univ]
  exact (pointsTo_share (PosShare.mem_left_op_right fullShare)).1
theorem x_whole : (iprop(xHold m false c ∗ xHold m true c) : sProp 𝕄) ⊢ (((c : Thread nD τ).loc main_arg0) ↦{fullShare} xIn m c) := by
  unfold xHold shr
  rw [(Memref.isWhole_whole main_arg0).set_eq_univ]
  exact (pointsTo_share (PosShare.mem_left_op_right fullShare)).2

theorem w_hold : ((((c : Thread nD τ).loc main_arg1) ↦{fullShare} wIn m c : sProp 𝕄)) = wHold m c := by
  unfold wHold
  rw [(Memref.isWhole_whole main_arg1).set_eq_univ]

/-! ## Before and after the body -/

/-- What device `c` enters the kernel with, beside its scratch buffers. -/
def start : sProp 𝕄 :=
  iprop(G' m c ∗ (cred (tallyAt (barC c) 1 2) ∗ crR (F := F) false c 0 ∗ crR (F := F) true c 0 ∗ crC (F := F) false c 0 ∗ crC (F := F) true c 0)
    ∗ levAts L lv ∗ (((c : Thread nD τ).loc main_arg0) ↦{fullShare} xIn m c) ∗ (((c : Thread nD τ).loc main_arg1) ↦{fullShare} wIn m c)
    ∗ (((c : Thread nD τ).loc main_v1) ↦{fullShare} m ((c : Thread nD τ).loc main_v1)))

/-- The scratch buffers, whatever they hold. -/
def scratch : sProp 𝕄 := Pipeline.scopedRest (Ix := ℕ) (Name := ℕ) (U := UU) (Lvl := ℕ) (Val := Elt F) cfg0.spec c

/-- The arrays at the end. -/
abbrev arrs : sProp 𝕄 :=
  iprop((((c : Thread nD τ).loc main_arg0) ↦{fullShare} xIn m c) ∗ (((c : Thread nD τ).loc main_arg1) ↦{fullShare} wIn m c)
    ∗ (((c : Thread nD τ).loc main_v1) ↦{fullShare} resultOf m c))

/-- What device `c` leaves the kernel with. -/
def finish : sProp 𝕄 :=
  iprop((unscopedSems0 c ∗ arrs m c) ∗ Pipeline.ownSems0 (Ix := ℕ) (Name := ℕ) (U := UU) (Lvl := ℕ) (Val := Elt F) (τ := τ) osem c ∗ scratch (F := F) c)

theorem to_tokC (b : Bool) : (ownC (F := F) b (up b c) : sProp 𝕄) ⊢ tokC (F := F) b c 0 := by
  unfold tokC ownC
  exact bigSep_subset (by decide)

theorem to_bar (b : Bool) : (ownB (F := F) b (up b c) : sProp 𝕄) ⊢ dutyTok ER (barC (up b c)) 0 b := by
  unfold ownB
  exact bigSep_elim (Φ := fun r => dutyTok ER (barC (up b c)) r b) (Finset.mem_Ico.mpr ⟨le_rfl, by omega⟩)

/-- Direction `b`'s ring at its start. -/
theorem ring_start (b : Bool) : iprop(records m ∗ atPos ER (sndC b c) 0 ∅ 0 ∗ atPos ER (rcvC b c) 0 ∅ 0 ∗ atPos ER (crdC b c) 0 ∅ 0
      ∗ ownS (F := F) b c ∗ ownR (F := F) b (dn b c) ∗ ownC (F := F) b (up b c) ∗ crR (F := F) b c 0 ∗ crC (F := F) b c 0)
    ⊢ (stA (F := F) b c 0 : sProp 𝕄) := by
  iintro ⟨#HR, Hs, Hr, Hc, HS, HV, HC, Hcr, Hcc⟩
  ihave H1 := (rec_snd m b c) $$ HR
  ihave H2 := (rec_crd m b c) $$ HR
  icases H1 with ⟨%κ, -, #H1⟩
  icases H2 with ⟨%κ', -, #H2⟩
  ihave HC := (to_tokC c b) $$ HC
  unfold stA tokS tokR
  isplitl [Hs]; · iexact Hs
  isplitr; · iexact H1
  isplitl [Hr]; · iexact Hr
  isplitl [Hc]; · iexact Hc
  isplitr; · iexact H2
  isplitl [HS]; · iexact HS
  isplitl [HV]; · iexact HV
  isplitl [HC]; · iexact HC
  isplitl [Hcr] <;> iassumption

set_option maxHeartbeats 2000000 in
theorem body_start : iprop(start m c ∗ scratch (F := F) c ∗ ow c (owed₀ c)) ⊢ bodyPre m c := by
  unfold start scratch G' payToks
  rw [scopedRest0_eq, sep_seven]
  iintro ⟨⟨⟨#HR, ⟨Ha, Hs0, Hs1, Hr0, Hr1, Hc0, Hc1⟩, ⟨⟨HB0, HB1⟩, ⟨HS0, HS1⟩, ⟨HV0, HV1⟩, ⟨HC0, HC1⟩⟩, ⟨Hx0, Hx1, Hw, Ho0, Ho1⟩⟩,
    ⟨Kb, Kr0, Kr1, Kc0, Kc1⟩, #Hl, HX, HW, HO⟩, ⟨Z0, Z1, Z2, Z3, Z4, Z5, Z6, Z7, Z8⟩, Hw0⟩
  ihave HB0 := (to_bar c false) $$ HB0
  ihave HB1 := (to_bar c true) $$ HB1
  ihave HX := (x_shares m c) $$ HX
  icases HX with ⟨HX0, HX1⟩
  ihave HW := (Entails.of_eq (w_hold m c)) $$ HW
  ihave Z0 := (own_of c cc0_scratch0) $$ Z0
  ihave Z0 := (wb_split c) $$ Z0
  ihave Z1 := (own_of c cc0_scratch1) $$ Z1
  ihave Z2 := (own_of c cc0_scratch2) $$ Z2
  ihave Z2 := (xs_split c) $$ Z2
  icases Z2 with ⟨Z20, Z21⟩
  ihave Z3 := (own_of c cc0_scratch3) $$ Z3
  ihave Z3 := (xb_split c) $$ Z3
  ihave Z4 := (own_of c cc0_scratch4) $$ Z4
  ihave Z4 := (acc_split c) $$ Z4
  ihave Z5 := (own_of c cc0_scratch5) $$ Z5
  ihave Z6 := (own_of c cc0_scratch6) $$ Z6
  ihave Z7 := (own_of c cc0_scratch7) $$ Z7
  ihave Z8 := (own_of c cc0_scratch8) $$ Z8
  isplitr; · iexact HR
  isplitr; · iexact Hl
  isplitl [Hw0]; · iexact Hw0
  isplitl [Kb Ha HB0 HB1]
  · isplitl [Kb]; · iexact Kb
    isplitl [Ha]; · iexact Ha
    isplitl [HB0] <;> iassumption
  isplitl [Hs0 Hr0 Hc0 HS0 HV0 HC0 Kr0 Kc0]
  · iapply (ring_start m c false)
    isplitr; · iexact HR
    isplitl [Hs0]; · iexact Hs0
    isplitl [Hr0]; · iexact Hr0
    isplitl [Hc0]; · iexact Hc0
    isplitl [HS0]; · iexact HS0
    isplitl [HV0]; · iexact HV0
    isplitl [HC0]; · iexact HC0
    isplitl [Kr0] <;> iassumption
  isplitl [Hs1 Hr1 Hc1 HS1 HV1 HC1 Kr1 Kc1]
  · iapply (ring_start m c true)
    isplitr; · iexact HR
    isplitl [Hs1]; · iexact Hs1
    isplitl [Hr1]; · iexact Hr1
    isplitl [Hc1]; · iexact Hc1
    isplitl [HS1]; · iexact HS1
    isplitl [HV1]; · iexact HV1
    isplitl [HC1]; · iexact HC1
    isplitl [Kr1] <;> iassumption
  isplitl [HX0 Z20 Hx0]
  · isplitl [HX0]; · iexact HX0
    isplitl [Z20] <;> iassumption
  isplitl [HX1 Z21 Hx1]
  · isplitl [HX1]; · iexact HX1
    isplitl [Z21] <;> iassumption
  isplitl [HW Z1 Hw]
  · isplitl [HW]; · iexact HW
    isplitl [Z1]; · iexact Z1
    iexact Hw
  isplitl [Z0]; · iexact Z0
  isplitl [Z3]; · iexact Z3
  isplitl [Z4]; · iexact Z4
  isplitl [Z5 Z6]
  · isplitl [Z5]; · iexact Z5
    iexact Z6
  isplitl [Z7 Z8]
  · isplitl [Z7]; · iexact Z7
    iexact Z8
  isplitl [HO]
  · iapply (out_init m c)
    iapply (own_of c main_v1)
    iexists _; iexact HO
  isplitl [Ho0] <;> iassumption

/-- Direction `b`'s ring at its end: the three cells are closed. -/
theorem ring_finish (b : Bool) : iprop(records m ∗ ringEnd (F := F) b c)
    ⊢ (|={Set.univ}=> iprop((semVal (sndC b c) 0 ∗ semVal (rcvC b c) 0 ∗ semVal (crdC b c) 0) ∗ ownE (F := F) c (bufM b false) ∗ ownE (F := F) c (bufM b true)) : sProp 𝕄) := by
  unfold ringEnd stD
  iintro ⟨#HR, ⟨Hs, -, Hr, -, -, Hc, -⟩, H0, H1⟩
  ihave K1 := (rec_snd m b c) $$ HR
  ihave K2 := (rec_rcv m b c) $$ HR
  ihave K3 := (rec_crd m b c) $$ HR
  icases K1 with ⟨%κ1, #K1, -⟩
  icases K2 with ⟨%κ2, #K2, -⟩
  icases K3 with ⟨%κ3, #K3, -⟩
  imod (Rounds.cell_close ER (Rd m) (Set.mem_univ κ1) (fun h => h) (R := 13 + 1) (done_snd m b c)) $$ [Hs] with HzS
  · isplitr; · iexact K1
    iexact Hs
  imod (Rounds.cell_close ER (Rd m) (Set.mem_univ κ2) (fun h => h) (R := 13 + 1) (done_rcv m b c)) $$ [Hr] with HzR
  · isplitr; · iexact K2
    iexact Hr
  imod (Rounds.cell_close ER (Rd m) (Set.mem_univ κ3) (fun h => h) (R := 13) (done_crd m b c)) $$ [Hc] with HzC
  · isplitr; · iexact K3
    iexact Hc
  imodintro
  isplitl [HzS HzR HzC]
  · isplitl [HzS]; · iexact HzS
    isplitl [HzR] <;> iassumption
  isplitl [H0]; · iexact H0
  iexact H1

set_option maxHeartbeats 2000000 in
theorem body_finish : bodyPost m c ⊢ (|={Set.univ}=> iprop(finish m c ∗ ow c 0) : sProp 𝕄) := by
  unfold finish scratch
  rw [scopedRest0_eq, ownSems0_eq, unscopedSems0_eq]
  iintro ⟨#HR, HO, Ha, HE0, HE1, ⟨HX0, HS0, Hv0⟩, ⟨HX1, HS1, Hv1⟩, ⟨HW, HA, Hvw⟩, HQ, HB, HC, Hout, Ho0, Ho1⟩
  ihave K := (rec_bar m c) $$ HR
  icases K with ⟨%κ, #K, -⟩
  imod (Rounds.cell_close ER (Rd m) (Set.mem_univ κ) (fun h => h) (R := 1) (done_bar m c)) $$ [Ha] with HzB
  · isplitr; · iexact K
    iexact Ha
  imod (ring_finish m c false) $$ [HE0] with ⟨⟨HzS0, HzR0, HzC0⟩, Z5, Z7⟩
  · isplitr; · iexact HR
    iexact HE0
  imod (ring_finish m c true) $$ [HE1] with ⟨⟨HzS1, HzR1, HzC1⟩, Z6, Z8⟩
  · isplitr; · iexact HR
    iexact HE1
  ihave HX := (x_whole m c) $$ [HX0 HX1]
  · isplitl [HX0] <;> iassumption
  ihave HW := (Entails.of_eq (w_hold m c).symm) $$ HW
  ihave Hout := (out_done m c) $$ Hout
  ihave HS := (xs_join c) $$ [HS0 HS1]
  · isplitl [HS0] <;> iassumption
  ihave HB := (xb_join c) $$ HB
  ihave HC := (acc_join c) $$ HC
  imodintro
  isplitr [HO]
  · isplitl [HzB HX HW Hout]
    · isplitl [HzB]; · iexact HzB
      isplitl [HX]; · iexact HX
      isplitl [HW]; · iexact HW
      iexact Hout
    isplitl [HzS0 HzS1 HzR0 HzR1 HzC0 HzC1 Hv0 Hv1 Hvw Ho0 Ho1]
    · isplitl [HzS0]; · iexact HzS0
      isplitl [HzS1]; · iexact HzS1
      isplitl [HzR0]; · iexact HzR0
      isplitl [HzR1]; · iexact HzR1
      isplitl [HzC0]; · iexact HzC0
      isplitl [HzC1]; · iexact HzC1
      isplitl [Hv0]; · iexact Hv0
      isplitl [Hv1]; · iexact Hv1
      isplitl [Hvw]; · iexact Hvw
      isplitl [Ho0] <;> iassumption
    isplitl [HQ]; · iapply (of_own c cc0_scratch0); iexact HQ
    isplitl [HA]; · iapply (of_own c cc0_scratch1); iexact HA
    isplitl [HS]; · iapply (of_own c cc0_scratch2); iexact HS
    isplitl [HB]; · iapply (of_own c cc0_scratch3); iexact HB
    isplitl [HC]; · iapply (of_own c cc0_scratch4); iexact HC
    isplitl [Z5]; · iapply (of_own c cc0_scratch5); iexact Z5
    isplitl [Z6]; · iapply (of_own c cc0_scratch6); iexact Z6
    isplitl [Z7]; · iapply (of_own c cc0_scratch7); iexact Z7
    iapply (of_own c cc0_scratch8); iexact Z8
  iexact HO

end Cert.Rings

end

end
-- ==== Proof.Launch.lean ====
module

public import proofs.«01_k».proof.Proof.Ends
public import proofs.«01_k».proof.Proof.Gen.KernelIdeal.Points
public import Idealize.ShloMosaic.Lib.Pipeline.CollectiveSegs

/-! # The run

The whole program on eight devices, for any float values.
-/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The kernel's data on device `c`: no windows, one point. -/
def dats (_ : Fin 1) (c : Dev nD) : Pipeline.Dat τ (Elt F) ℕ ℕ UU ℕ cfg0 c where
  A w := m ((cfg0.win w).arr.view.loc (c : Thread nD τ))
  after w _ := Fin.elim0 w
  Φ t := match t with
    | ⟨0, _⟩ => iprop(start m c ∗ scratch (F := F) c)
    | ⟨_ + 1, _⟩ => finish m c
  q _ := fullShare
  owed t := match t with
    | ⟨0, _⟩ => owed₀ c
    | ⟨_ + 1, _⟩ => 0

/-- The body takes a device from its start to its finish. -/
theorem body_run (c : Dev nD) : iprop((start m c ∗ scratch (F := F) c) ∗ ow c (owed₀ c))
    ⊢ WP c (bodyAt0 (F := F) t0_0) (fun _ => iprop(finish m c ∗ ow c 0)) := by
  refine BIBase.Entails.trans ?_ (wp_fupd frame (wpE (defs₀ (F := F)) 𝒱₀ (c : Thread nD τ) none) Set.univ _ _)
  iintro ⟨⟨Hs, Hz⟩, HO⟩
  ihave H := (body_start m c) $$ [Hs Hz HO]
  · isplitl [Hs]; · iexact Hs
    isplitl [Hz] <;> iassumption
  iapply (body m c) $$ H
  iintro H
  iapply (body_finish m c)
  iexact H

theorem windows_none (c : Dev nD) (Φ : Fin cfg0.W → sProp 𝕄) : bigSep Finset.univ Φ = BI.emp := by
  rw [show (Finset.univ : Finset (Fin cfg0.W)) = ∅ from rfl]; exact bigSep_empty

set_option maxRecDepth 4000 in
theorem body_obligation (c : Dev nD) : Pipeline.BodyObligation (dats (F := F) m 0 c) (defs₀ (F := F)) 𝒱₀ 0 Set.univ := fun t => by
  rw [fin_N0 t, windows_none c, windows_none c]
  refine BIBase.Entails.trans ?_ ((body_run m c).trans (wp_mono _ _ _ fun _ => ?_))
  · show iprop((start m c ∗ scratch (F := F) c) ∗ (dats m 0 c).owesAt 0 t0_0.castSucc ∗ BI.emp) ⊢ _
    unfold Pipeline.Dat.owesAt Pipeline.owesWithin
    iintro ⟨H, ⟨%W, -, HO⟩, -⟩
    isplitl [H]; · iexact H
    iexists W; iexact HO
  · show _ ⊢ iprop(finish m c ∗ (dats m 0 c).owesAt 0 t0_0.succ ∗ BI.emp)
    unfold Pipeline.Dat.owesAt Pipeline.owesWithin
    iintro ⟨H, ⟨%W, HO⟩⟩
    isplitl [H]; · iexact H
    isplitl [HO]
    · iexists W
      isplitr; · ipureintro; exact fun _ _ => Or.inl trivial
      iexact HO
    iempintro

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  iintro ⟨HA, Hlev, Hcr, -, HG⟩
  ihave Hc := (creds (F := F) c) $$ Hcr
  ihave HA := (show (Pipeline.unscopedRestP Pipeline.Prefetch.none cfg0.spec c (fun b => m ((c : Thread nD τ).loc b)) : sProp 𝕄)
    ⊢ iprop((((c : Thread nD τ).loc main_arg0) ↦{fullShare} m ((c : Thread nD τ).loc main_arg0)) ∗ (((c : Thread nD τ).loc main_arg1) ↦{fullShare} m ((c : Thread nD τ).loc main_arg1))
      ∗ (((c : Thread nD τ).loc main_v1) ↦{fullShare} m ((c : Thread nD τ).loc main_v1))) from Entails.of_eq (unscopedRest0_eq c (fun b => m ((c : Thread nD τ).loc b)))) $$ HA
  icases HA with ⟨HX, HW, HO⟩
  imodintro
  unfold start
  isplitl
  · isplitl [HG]; · iexact HG
    isplitl [Hc]; · iexact Hc
    isplitl [Hlev]; · iexact Hlev
    isplitl [HX]; · iexact HX
    isplitl [HW] <;> iassumption
  · iempintro

theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl]
  unfold scratch
  iintro ⟨Hs, -, Hr⟩
  isplitl [Hs] <;> iassumption

theorem phi_exit (c : Dev nD) :
    (dats m 0 c).Φ (Fin.last cfg0.N) ⊢ iprop((unscopedSems0 c ∗ arrs m c) ∗ Pipeline.ownSems0 osem c ∗ Pipeline.scopedRest cfg0.spec c) := by
  rw [show (dats m 0 c).Φ (Fin.last cfg0.N) = finish m c from rfl]
  unfold finish scratch
  exact BI.Entails.refl _

theorem waits (c : Dev nD) : (levAts L lv : sProp 𝕄) ⊢ Pipeline.cellsWaits cfgs (dats m) 0 0 c :=
  Pipeline.cellsWaits_intro cfgs (dats m) 0 0 c fun w s t => Fin.elim0 w

/-- What one device's memory holds at the end. -/
def done (c : Dev nD) (s : MemSt nD τ sig (Elt F)) : Prop :=
  s.mem ((c : Thread nD τ).loc main_v1) = resultOf m c
  ∧ s.mem ((c : Thread nD τ).loc main_arg0) = m ((c : Thread nD τ).loc main_arg0)
  ∧ s.mem ((c : Thread nD τ).loc main_arg1) = m ((c : Thread nD τ).loc main_arg1)

/-- The arrays at the end are what the final memory holds. -/
theorem arrs_read (c : Dev nD) (s' : Phys nD τ sig (Elt F)) : iprop(arrs m c ∗ SI s') ⊢ (iprop(⌜done m c s'.mem⌝ ∗ SI s') : sProp 𝕄) := by
  iintro ⟨⟨HX, HW, HO⟩, HSI⟩
  icombine HSI HX gives %hX
  icombine HSI HW gives %hW
  icombine HSI HO gives %hO
  isplitr
  · ipureintro
    exact ⟨Buf.eq_of_forall_mem_univ hO, Buf.eq_of_forall_mem_univ hX, Buf.eq_of_forall_mem_univ hW⟩
  iexact HSI

set_option maxRecDepth 8000 in
/-- From any memory with zero counters, every weakly fair run of the program on eight devices ends; then each device's
    result is `resultOf`, its two arguments hold what they held, and every counter is zero. -/
theorem run_main : θ_run defs (onTc (τ := τ) (main (F := F))) ⟨m, fun _ => 0, ρ⟩ (fun r => (∀ c, done m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => Fin.elim0 w) (harr := arr_whole0) (hstage := stage_whole0)
    (hshare := fun _ w => Fin.elim0 w)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_parts _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ arrs m c)) (Z := fun _ => iprop(emp))
    (hX := start_intro m ρ) (hin := phi_intro m) (hout := phi_exit m)
    (QY := fun c s => (∀ sm : SemLoc sig, sm.isScoped .tc = false → s.sem ((c.tc : Thread nD τ), sm) = 0) ∧ done m c s)
    (hY := fun c s' => by
      iintro ⟨⟨Hu, HA⟩, -, HSI⟩
      ihave H := (arrs_read m c s') $$ [HA HSI]
      · isplitl [HA] <;> iassumption
      icases H with ⟨%hd, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hd⟩
      iexact HSI)
    (hQ := fun _ h hs => ⟨fun c => (h c).2.2.2, sem_eq_zero hs fun c => (h c).2.2.1⟩)

end Cert.Rings

end

end
-- ==== Proof.Total.lean ====
module

public import proofs.«01_k».proof.Proof.Slices
public import Idealize.ShloMosaic.Lib.MatmulPlain
public import Idealize.ShloMosaic.Lib.StackMember
public import Idealize.ShloMosaic.Lib.Pointwise.Sums

/-! # The result as one product

Over the ideal values, where roundings are the identity and sums may be re-ordered, what every device writes
is the product of the whole arrays: each half block is the sum over the eight devices of their partial
products, and each partial product is the sum over a device's 1024 columns.
-/

@[expose] public section

noncomputable section

namespace Cert.Rings

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ)

/-! ## The sum over the ring -/

/-- The device `t` places along direction `b` from the device that block `j` starts at. -/
def passedBy (b : Bool) (j : Fin 8) (t : ℕ) : Dev nD :=
  match b with
  | false => ⟨(j.val + t) % 8, Nat.mod_lt _ (by decide)⟩
  | true => ⟨(j.val + 7 * t) % 8, Nat.mod_lt _ (by decide)⟩

theorem at_zero : ∀ (b : Bool) (j : Fin 8), passedBy b j 0 = j := by decide
theorem up_at : ∀ (b : Bool) (j : Fin 8) (t : Fin 8), up b (passedBy b j (t.val + 1)) = passedBy b j t.val := by decide
theorem ch_at : ∀ (b : Bool) (j : Fin 8) (t : Fin 7), ch b (passedBy b j (t.val + 1)) t.val = j := by decide
theorem at_last : ∀ (b : Bool) (c : Dev nD), passedBy b (ch b c 6) 7 = c := by decide
theorem ch_up : ∀ (b : Bool) (c : Dev nD) (n : Fin 8), ch b (up b c) (6 + n.val) = ch b c (6 + (n.val + 1)) := by decide
theorem at_inj : ∀ (b : Bool) (j : Fin 8), Function.Injective fun t : Fin 8 => (passedBy b j t.val : Fin 8) := by decide

/-- The first partial product that a device sends is its own. -/
theorem v_zero (b : Bool) (c : Dev nD) (p : S512x4096.Idx) : v m b 0 c p = (dot m b c c p : EReal) := by
  have h : v m b 0 c = k0_pay23 (dot m b c c) := rfl
  rw [h]; unfold k0_pay23
  show shapeCast S512x4096 _ _ p = _
  rw [shapeCast_self]; rfl

/-- Adding a partial product to what was received. -/
theorem pay9_apply (x : FVec Ideal S512x4096 .f32) (y : FVec Ideal S512x4096 .bf16) (p : S512x4096.Idx) :
    k0_pay9 (F := Ideal) x y p = ((x p : EReal) + (y p : EReal) : EReal) := by
  unfold k0_pay9
  show shapeCast S512x4096 _ _ p = _
  rw [shapeCast_self]; rfl
theorem pay7_apply (x : FVec Ideal S512x4096 .f32) (y : FVec Ideal S512x4096 .bf16) (p : S512x4096.Idx) :
    k0_pay7 (F := Ideal) x y p = ((x p : EReal) + (y p : EReal) : EReal) := by
  unfold k0_pay7
  show shapeCast S512x4096 _ _ p = _
  rw [shapeCast_self]; rfl
theorem pay11_apply (y : FVec Ideal S512x4096 .bf16) (p : S512x4096.Idx) : k0_pay11 (F := Ideal) y p = (y p : EReal) := by
  unfold k0_pay11
  show shapeCast S512x4096 _ _ p = _
  rw [shapeCast_self]; rfl

/-- Up to hop 7 what is sent is the sum of the partial products of the devices passed. -/
theorem v_sum (b : Bool) (j : Fin 8) (p : S512x4096.Idx) : ∀ k : ℕ, k < 8 →
    v m b k (passedBy b j k) p = (∑ t ∈ Finset.range (k + 1), (dot m b (passedBy b j t) j p : EReal))
  | 0, _ => by rw [v_zero, Finset.sum_range_one, at_zero]
  | k + 1, hk => by
      have h : v m b (k + 1) (passedBy b j (k + 1))
          = k0_pay9 (dot m b (passedBy b j (k + 1)) (ch b (passedBy b j (k + 1)) k)) (v m b k (up b (passedBy b j (k + 1)))) :=
        if_pos (show k < 7 by omega)
      rw [h, pay9_apply, up_at b j ⟨k, by omega⟩, ch_at b j ⟨k, by omega⟩, v_sum b j p k (by omega),
        Finset.sum_range_succ _ (k + 1), add_comm]

/-- From hop 7 on what is sent is the sum over all devices. -/
theorem v_full (b : Bool) (p : S512x4096.Idx) : ∀ n : ℕ, n < 8 → ∀ c : Dev nD,
    v m b (7 + n) c p = (∑ d : Fin 8, (dot m b d (ch b c (6 + n)) p : EReal))
  | 0, _, c => by
      have h := v_sum m b (ch b c 6) p 7 (by decide)
      rw [at_last] at h
      show v m b 7 c p = (∑ d : Fin 8, (dot m b d (ch b c 6) p : EReal))
      rw [h, Finset.sum_range]
      exact Function.Bijective.sum_comp (Finite.injective_iff_bijective.mp (at_inj b (ch b c 6)))
        (fun d : Fin 8 => (dot m b d (ch b c 6) p : EReal))
  | n + 1, hn, c => by
      have h : v m b (7 + n + 1) c = v m b (7 + n) (up b c) := if_neg (show ¬ 7 + n < 7 by omega)
      show v m b (7 + n + 1) c p = _
      rw [h, v_full b p n (by omega) (up b c), ch_up b c ⟨n, by omega⟩]

/-- Every half block that a device writes is the sum over all devices of their partial products. -/
theorem val_full (b : Bool) (c : Dev nD) (n : ℕ) (hn : n < 8) (p : S512x4096.Idx) :
    val m b c n p = (∑ d : Fin 8, (dot m b d (ch b c (6 + n)) p : EReal)) := by
  rw [← v_full m b p n hn c]
  unfold val
  by_cases h0 : n = 0
  · subst h0
    have h : v m b (7 + 0) c = k0_pay9 (dot m b c (ch b c 6)) (v m b 6 (up b c)) := rfl
    rw [if_pos rfl, h, pay7_apply, pay9_apply]
  · obtain ⟨k, rfl⟩ : ∃ k, n = k + 1 := ⟨n - 1, by omega⟩
    have h : v m b (7 + (k + 1)) c = v m b (7 + k) (up b c) := if_neg (show ¬ 7 + k < 7 by omega)
    rw [if_neg h0, h, pay11_apply, show 6 + (k + 1) = 7 + k by omega]

/-! ## A partial product at an element -/

/-- A partial product is the sum over the device's columns. -/
theorem dot_apply (b : Bool) (c : Dev nD) (j : Fin 8) (p : Fin 512) (q : Fin 4096) :
    dot m b c j (ValueIdx.ix2 p q) = (∑ k : Fin 1024, (xblk m b c j (ValueIdx.ix2 p k) : EReal) * (wIn m c (ValueIdx.ix2 k q) : EReal)) := by
  have h1 : k0_pay1 (xblk1 m b c j) = shapeCast S1x512x1024 (xblk m b c j) shapeCasts_S512x1024_S1x512x1024 := by
    unfold k0_pay1 xblk1
    show shapeCast S1x512x1024 (shapeCast S512x1024 (shapeCast S1x512x1024 (xblk m b c j) _) _) _ = _
    rw [shapeCast_shapeCast]
  unfold dot
  rw [h1]
  unfold k0_pay3
  show shapeCast S512x4096 (matmul (F := Ideal) (φ₁ := .bf16) (φ₂ := .bf16) (DotDims.plain 512 1024 4096) none
    (shapeCast S512x1024 (shapeCast S1x512x1024 (xblk m b c j) _) _) (wbf m c) (constant S512x4096 .f32 0x00000000#32)) _ (ValueIdx.ix2 p q) = _
  rw [shapeCast_self, shapeCast_shapeCast]
  refine (Ideal.matmul_plain_apply none _ _ _ p q).trans ?_
  show Ideal.ofBits .f32 0x00000000#32 + _ = _
  rw [Ideal.ofBits_zero_f32, zero_add]
  rfl

/-! ## The whole product -/

variable (X : (⟨2, ![8192, 8192]⟩ : Shape).Idx → EReal) (W : (⟨2, ![8192, 4096]⟩ : Shape).Idx → EReal)
  (hX : ∀ c : Dev nD, xIn m c = Layout.block ⟨2, ![8192, 1024]⟩ ⟨2, ![8192, 8192]⟩ 1 8 c X)
  (hW : ∀ c : Dev nD, wIn m c = Layout.block ⟨2, ![1024, 4096]⟩ ⟨2, ![8192, 4096]⟩ 0 8 c W)

/-- The row of the result that row `r` of a half block is. -/
theorem row_eq (c : Dev nD) (i : S8192x4096.Idx) : row0 (hb i) (ch (hb i) c (6 + fl c i)) + (i 0).val % 512 = (i 0).val := by
  have h0 : (i 0).val < 8192 := (i 0).isLt
  have hc : c.val < 8 := c.isLt
  unfold hb fl
  generalize (i 0).val = x at *
  by_cases h : x % 1024 < 512
  · rw [if_pos h, decide_eq_false (by omega)]
    show 1024 * ((c.val + 15 - (6 + (c.val + 9 - x / 1024) % 8)) % 8) + x % 512 = x
    omega
  · rw [if_neg h, decide_eq_true (by omega)]
    show 1024 * ((c.val + (6 + (x / 1024 + 9 - c.val) % 8) + 1) % 8) + 512 + x % 512 = x
    omega

include hX hW in
set_option backward.proofsInPublic true in
/-- What a device writes at an element is the product of the whole arrays there. -/
theorem result_apply (c : Dev nD) (i : S8192x4096.Idx) :
    resultOf m c i = (∑ k : Fin 8192, X (ValueIdx.ix2 (i 0) k) * W (ValueIdx.ix2 k (i 1)) : EReal) := by
  have hr := row_eq c i
  unfold resultOf
  rw [val_full m (hb i) c (fl c i) (fl_lt c i) (hp i)]
  refine Eq.trans ?_ (Fin.sum_univ_tiles (N := 8192) 8 1024 rfl fun k => X (ValueIdx.ix2 (i 0) k) * W (ValueIdx.ix2 k (i 1))).symm
  refine Finset.sum_congr rfl fun d _ => ?_
  have hhp : hp i = ValueIdx.ix2 (⟨(i 0).val % 512, Nat.mod_lt _ (by decide)⟩ : Fin 512) (⟨(i 1).val, (i 1).isLt⟩ : Fin 4096) := by
    funext a; match a with | ⟨0, _⟩ => rfl | ⟨1, _⟩ => rfl
  rw [hhp, dot_apply]
  refine Finset.sum_congr rfl fun t _ => ?_
  unfold xblk
  rw [hX d, hW d, Layout.block_apply, Layout.block_apply]
  congr 1
  · refine congrArg X ?_
    funext a; apply Fin.ext
    match a with
    | ⟨0, _⟩ =>
      show row0 (hb i) (ch (hb i) c (6 + fl c i)) + 1 * ((i 0).val % 512) = (i 0).val
      omega
    | ⟨1, _⟩ =>
      show d.val * 1024 + (0 + 1 * t.val) = d.val * 1024 + t.val
      omega
  · refine congrArg W ?_
    funext a; apply Fin.ext
    match a with
    | ⟨0, _⟩ => rfl
    | ⟨1, _⟩ => rfl

end Cert.Rings

end

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Total

@[expose] public section

noncomputable section

namespace Cert.Proof

open Idealize.ShloMosaic Idealize.SL.Sem

/-- The kernel runs over words, leaves its arguments as they were and ends quiet. -/
theorem frame_kernel : Cert.quiescent_Kernel := fun m ρ _ =>
  (θ_run Cert.KernelIdeal.defs _ _).mono (fun _ h => ⟨fun c => (h.1 c).2, h.2⟩) (Cert.Rings.run_main (F := Bits) m ρ)

/-- The same over the ideal values. -/
theorem frame_ideal : Cert.quiescent_KernelIdeal := fun m ρ _ =>
  (θ_run Cert.KernelIdeal.defs _ _).mono (fun _ h => ⟨fun c => (h.1 c).2, h.2⟩) (Cert.Rings.run_main (F := Ideal) m ρ)

/-- The reference leaves its arguments as they were; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's product at an element, as a sum over the 8192 columns. -/
theorem reference_apply (X : FVec Ideal Cert.ReferenceIdeal.S8192x8192 .f32) (W : FVec Ideal Cert.ReferenceIdeal.S8192x4096 .f32)
    (i : Cert.ReferenceIdeal.S8192x4096.Idx) :
    (extf .f32 (truncf .bf16 (Host.dotGeneral Cert.ReferenceIdeal.dot_S8192x8192_S8192x4096_S8192x4096_1_0_0_1_n_n none
      (truncf .bf16 X Cert.ReferenceIdeal.Gen.bitsLt_bf16_f32) (truncf .bf16 W Cert.ReferenceIdeal.Gen.bitsLt_bf16_f32))
        Cert.ReferenceIdeal.Gen.bitsLt_bf16_f32) Cert.ReferenceIdeal.Gen.bitsLt_bf16_f32 : FVec Ideal Cert.ReferenceIdeal.S8192x4096 .f32) i
      = (∑ k : Fin 8192, X (ValueIdx.ix2 (i 0) k) * W (ValueIdx.ix2 k (i 1)) : EReal) := by
  rw [ValueIdx.eq_ix2 i]
  exact StackMember.dotGeneral_plain_apply (φ₁ := .bf16) (φ₂ := .bf16) none X W (i 0) (i 1)

/-- Every device of the kernel ends with the reference's result. -/
theorem algebraic : Cert.algebraic_KernelIdeal_ReferenceIdeal := by
  intro m ρ m' ρ' _ hag
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩) (Cert.Rings.run_main (F := Ideal) m ρ)
  funext i
  exact (Cert.Rings.result_apply m _ _ (fun d => (hag d).1) (fun d => (hag d).2) c i).trans (reference_apply _ _ i).symm

/-- Everything that is claimed. -/
theorem claim : Cert.Claim := ⟨Cert.Kernel.Gen.facts, Cert.KernelIdeal.Gen.facts, Cert.ReferenceIdeal.Gen.facts,
  frame_kernel, frame_ideal, frame_reference, trivial, algebraic⟩

end Cert.Proof

end
